-- ==== Defs.lean ====
def Pre_Kernel [hPre_boxes_in_image : Cert.Pre_boxes_in_image.Facts] (m : (ℓ : Loc Cert.Kernel.nD Cert.Kernel.τ Cert.Kernel.sig) → Buf (Elt Bits) ℓ) : Prop :=
  ∀ c : Dev Cert.Kernel.nD,
    (Cert.Pre_boxes_in_image.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_boxes_in_image : Cert.Pre_boxes_in_image.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_in_image.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_boxes_in_image : Cert.Pre_boxes_in_image.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_in_image.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_boxes_in_image : Cert.Pre_boxes_in_image.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_boxes_in_image : Cert.Pre_boxes_in_image.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_boxes_in_image : Cert.Pre_boxes_in_image.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "thirteenth" .f32 0x3D9D89D9#32 ((13⁻¹ : ℝ) : EReal)

def algebraic_KernelIdeal_ReferenceIdeal [hKernelIdeal : Cert.KernelIdeal.Facts] [hReferenceIdeal : Cert.ReferenceIdeal.Facts] [hPre_boxes_in_image : Cert.Pre_boxes_in_image.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_boxes_in_image : Cert.Pre_boxes_in_image.Facts),
    quiescent_Kernel (hKernel := hKernel) (hPre_boxes_in_image := hPre_boxes_in_image)
    ∧ quiescent_KernelIdeal (hKernelIdeal := hKernelIdeal) (hPre_boxes_in_image := hPre_boxes_in_image)
    ∧ quiescent_ReferenceIdeal (hReferenceIdeal := hReferenceIdeal) (hPre_boxes_in_image := hPre_boxes_in_image)
    ∧ preserves_Kernel_KernelIdeal
    ∧ algebraic_KernelIdeal_ReferenceIdeal (hKernelIdeal := hKernelIdeal) (hReferenceIdeal := hReferenceIdeal) (hPre_boxes_in_image := hPre_boxes_in_image)
-- ==== Pre_boxes_in_image.lean ====
abbrev S4x384x32x32 : Shape := ⟨4, ![4, 384, 32, 32]⟩
abbrev S512x6 : Shape := ⟨2, ![512, 6]⟩
abbrev S_ : Shape := ⟨0, ![]⟩
abbrev S15 : Shape := ⟨1, ![15]⟩
abbrev S1x15 : Shape := ⟨2, ![1, 15]⟩
abbrev S512x1 : Shape := ⟨2, ![512, 1]⟩
abbrev S512 : Shape := ⟨1, ![512]⟩
abbrev S512x15 : Shape := ⟨2, ![512, 15]⟩

class Facts : Prop where
  bcast_S_S15 : S_.BroadcastsInDim S15 (![] : Fin 0 → Fin S15.rank)
  bcast_S15_S1x15_1 : S15.BroadcastsInDim S1x15 (![1] : Fin 1 → Fin S1x15.rank)
  slices_S512x6_S512x1_0_0 : S512x6.Slices ![0, 0] S512x1
  shapeCasts_S512x1_S512 : S512x1.ShapeCasts S512
  bcast_S512_S512x1_0 : S512.BroadcastsInDim S512x1 (![0] : Fin 1 → Fin S512x1.rank)
  slices_S512x6_S512x1_0_2 : S512x6.Slices ![0, 2] S512x1
  slices_S512x6_S512x1_0_3 : S512x6.Slices ![0, 3] S512x1
  slices_S512x6_S512x1_0_4 : S512x6.Slices ![0, 4] S512x1
  slices_S512x6_S512x1_0_5 : S512x6.Slices ![0, 5] S512x1
  bcast_S_S512x1 : S_.BroadcastsInDim S512x1 (![] : Fin 0 → Fin S512x1.rank)
  bcast_S512x1_S512x15_0_1 : S512x1.BroadcastsInDim S512x15 (![0, 1] : Fin 2 → Fin S512x15.rank)
  bcast_S1x15_S512x15_0_1 : S1x15.BroadcastsInDim S512x15 (![0, 1] : Fin 2 → Fin S512x15.rank)
  bcast_S_S512x15 : S_.BroadcastsInDim S512x15 (![] : Fin 0 → Fin S512x15.rank)

variable [Facts]

def fn_part4 {F : FTy → Type} [FloatOps F] (main_v57 : IVec S512x1 1) (main_v81 : FVec F S512x15 .f32) (main_v82 : IVec S512x15 32) (main_c_10 : IVec S_ 32) : IVec S512x15 1 :=
  let main_v83 : IVec S512x15 32 := broadcastInDim S512x15 ![] bcast_S_S512x15 main_c_10
  let main_v84 : IVec S512x15 1 := cmpi .sge main_v82 main_v83
  let main_v85 : IVec S512x15 1 := broadcastInDim S512x15 ![0, 1] bcast_S512x1_S512x15_0_1 main_v57
  let main_v86 : IVec S512x15 1 := andi main_v85 main_v84
  let main_v87 : IVec S512x15 32 := fptosi 32 main_v81
  let main_c_11 : IVec S_ 32 := constantI S_ 32 0#32
  let main_v88 : IVec S512x15 32 := broadcastInDim S512x15 ![] bcast_S_S512x15 main_c_11
  let main_v89 : IVec S512x15 1 := cmpi .sge main_v87 main_v88
  let main_v90 : IVec S512x15 1 := andi main_v86 main_v89
  main_v90

def fn_part3 {F : FTy → Type} [FloatOps F] (main_v1 : FVec F S_ .f32) (main_v6 : FVec F S1x15 .f32) (main_v8 : FVec F S1x15 .f32) (main_v15 : FVec F S512x1 .f32) (main_v21 : FVec F S512x1 .f32) (main_v57 : IVec S512x1 1) (main_v59 : FVec F S512x1 .f32) (main_v60 : FVec F S512x1 .f32) (main_v61 : FVec F S512x1 .f32) : IVec S512x15 1 :=
  let main_v62 : FVec F S512x1 .f32 := mulf main_v60 main_v61
  let main_cst_8 : FVec F S_ .f32 := constant S_ .f32 0x3D9D89D9#32
  let main_v63 : FVec F S512x1 .f32 := broadcastInDim S512x1 ![] bcast_S_S512x1 main_cst_8
  let main_v64 : FVec F S512x1 .f32 := mulf main_v62 main_v63
  let main_v65 : FVec F S512x15 .f32 := broadcastInDim S512x15 ![0, 1] bcast_S512x1_S512x15_0_1 main_v64
  let main_v66 : FVec F S512x15 .f32 := broadcastInDim S512x15 ![0, 1] bcast_S1x15_S512x15_0_1 main_v8
  let main_v67 : FVec F S512x15 .f32 := mulf main_v65 main_v66
  let main_v68 : FVec F S512x15 .f32 := broadcastInDim S512x15 ![0, 1] bcast_S512x1_S512x15_0_1 main_v59
  let main_v69 : FVec F S512x15 .f32 := addf main_v68 main_v67
  let main_v70 : FVec F S512x1 .f32 := broadcastInDim S512x1 ![] bcast_S_S512x1 main_v1
  let main_v71 : FVec F S512x1 .f32 := mulf main_v15 main_v70
  let main_v72 : FVec F S512x1 .f32 := subf main_v21 main_v15
  let main_v73 : FVec F S512x1 .f32 := broadcastInDim S512x1 ![] bcast_S_S512x1 main_v1
  let main_v74 : FVec F S512x1 .f32 := mulf main_v72 main_v73
  let main_cst_9 : FVec F S_ .f32 := constant S_ .f32 0x3D9D89D9#32
  let main_v75 : FVec F S512x1 .f32 := broadcastInDim S512x1 ![] bcast_S_S512x1 main_cst_9
  let main_v76 : FVec F S512x1 .f32 := mulf main_v74 main_v75
  let main_v77 : FVec F S512x15 .f32 := broadcastInDim S512x15 ![0, 1] bcast_S512x1_S512x15_0_1 main_v76
  let main_v78 : FVec F S512x15 .f32 := broadcastInDim S512x15 ![0, 1] bcast_S1x15_S512x15_0_1 main_v6
  let main_v79 : FVec F S512x15 .f32 := mulf main_v77 main_v78
  let main_v80 : FVec F S512x15 .f32 := broadcastInDim S512x15 ![0, 1] bcast_S512x1_S512x15_0_1 main_v71
  let main_v81 : FVec F S512x15 .f32 := addf main_v80 main_v79
  let main_v82 : IVec S512x15 32 := fptosi 32 main_v69
  let main_c_10 : IVec S_ 32 := constantI S_ 32 0#32
  fn_part4 (F := F) main_v57 main_v81 main_v82 main_c_10

def fn_part2 {F : FTy → Type} [FloatOps F] (main_v1 : FVec F S_ .f32) (main_v6 : FVec F S1x15 .f32) (main_v8 : FVec F S1x15 .f32) (main_v15 : FVec F S512x1 .f32) (main_v18 : FVec F S512x1 .f32) (main_v21 : FVec F S512x1 .f32) (main_v24 : FVec F S512x1 .f32) (main_v25 : FVec F S_ .f32) (main_v39 : IVec S512x1 1) (main_cst_5 : FVec F S_ .f32) : IVec S512x15 1 :=
  let main_v40 : FVec F S512x1 .f32 := broadcastInDim S512x1 ![] bcast_S_S512x1 main_cst_5
  let main_v41 : IVec S512x1 1 := cmpf .oge main_v18 main_v40
  let main_v42 : IVec S512x1 1 := andi main_v39 main_v41
  let main_v43 : FVec F S512x1 .f32 := broadcastInDim S512x1 ![] bcast_S_S512x1 main_v25
  let main_v44 : IVec S512x1 1 := cmpf .ole main_v18 main_v43
  let main_v45 : IVec S512x1 1 := andi main_v42 main_v44
  let main_cst_6 : FVec F S_ .f32 := constant S_ .f32 0x00000000#32
  let main_v46 : FVec F S512x1 .f32 := broadcastInDim S512x1 ![] bcast_S_S512x1 main_cst_6
  let main_v47 : IVec S512x1 1 := cmpf .oge main_v21 main_v46
  let main_v48 : IVec S512x1 1 := andi main_v45 main_v47
  let main_v49 : FVec F S512x1 .f32 := broadcastInDim S512x1 ![] bcast_S_S512x1 main_v25
  let main_v50 : IVec S512x1 1 := cmpf .ole main_v21 main_v49
  let main_v51 : IVec S512x1 1 := andi main_v48 main_v50
  let main_cst_7 : FVec F S_ .f32 := constant S_ .f32 0x00000000#32
  let main_v52 : FVec F S512x1 .f32 := broadcastInDim S512x1 ![] bcast_S_S512x1 main_cst_7
  let main_v53 : IVec S512x1 1 := cmpf .oge main_v24 main_v52
  let main_v54 : IVec S512x1 1 := andi main_v51 main_v53
  let main_v55 : FVec F S512x1 .f32 := broadcastInDim S512x1 ![] bcast_S_S512x1 main_v25
  let main_v56 : IVec S512x1 1 := cmpf .ole main_v24 main_v55
  let main_v57 : IVec S512x1 1 := andi main_v54 main_v56
  let main_v58 : FVec F S512x1 .f32 := broadcastInDim S512x1 ![] bcast_S_S512x1 main_v1
  let main_v59 : FVec F S512x1 .f32 := mulf main_v18 main_v58
  let main_v60 : FVec F S512x1 .f32 := subf main_v24 main_v18
  let main_v61 : FVec F S512x1 .f32 := broadcastInDim S512x1 ![] bcast_S_S512x1 main_v1
  fn_part3 (F := F) main_v1 main_v6 main_v8 main_v15 main_v21 main_v57 main_v59 main_v60 main_v61

def fn_part1 {F : FTy → Type} [FloatOps F] (main_arg1 : FVec F S512x6 .f32) (main_arg2 : IVec S_ 32) (main_v0 : FVec F S_ .f32) (main_v1 : FVec F S_ .f32) (main_v6 : FVec F S1x15 .f32) (main_v8 : FVec F S1x15 .f32) (main_v12 : IVec S512x1 32) (main_v15 : FVec F S512x1 .f32) (main_v18 : FVec F S512x1 .f32) (main_v21 : FVec F S512x1 .f32) : IVec S512x15 1 :=
  let main_v22 : FVec F S512x1 .f32 := (extractStridedSlice S512x1 ![0, 5] · slices_S512x6_S512x1_0_5) main_arg1
  let main_v23 : FVec F S512 .f32 := shapeCast S512 main_v22 shapeCasts_S512x1_S512
  let main_v24 : FVec F S512x1 .f32 := broadcastInDim S512x1 ![0] bcast_S512_S512x1_0 main_v23
  let main_cst_0 : FVec F S_ .f32 := constant S_ .f32 0x3F800000#32
  let main_v25 : FVec F S_ .f32 := subf main_v0 main_cst_0
  let main_c_1 : IVec S_ 32 := constantI S_ 32 1#32
  let main_v26 : IVec S_ 1 := cmpi .sge main_arg2 main_c_1
  let main_c_2 : IVec S_ 32 := constantI S_ 32 0#32
  let main_v27 : IVec S512x1 32 := broadcastInDim S512x1 ![] bcast_S_S512x1 main_c_2
  let main_v28 : IVec S512x1 1 := cmpi .sge main_v12 main_v27
  let main_v29 : IVec S512x1 1 := broadcastInDim S512x1 ![] bcast_S_S512x1 main_v26
  let main_v30 : IVec S512x1 1 := andi main_v29 main_v28
  let main_c_3 : IVec S_ 32 := constantI S_ 32 4#32
  let main_v31 : IVec S512x1 32 := broadcastInDim S512x1 ![] bcast_S_S512x1 main_c_3
  let main_v32 : IVec S512x1 1 := cmpi .slt main_v12 main_v31
  let main_v33 : IVec S512x1 1 := andi main_v30 main_v32
  let main_cst_4 : FVec F S_ .f32 := constant S_ .f32 0x00000000#32
  let main_v34 : FVec F S512x1 .f32 := broadcastInDim S512x1 ![] bcast_S_S512x1 main_cst_4
  let main_v35 : IVec S512x1 1 := cmpf .oge main_v15 main_v34
  let main_v36 : IVec S512x1 1 := andi main_v33 main_v35
  let main_v37 : FVec F S512x1 .f32 := broadcastInDim S512x1 ![] bcast_S_S512x1 main_v25
  let main_v38 : IVec S512x1 1 := cmpf .ole main_v15 main_v37
  let main_v39 : IVec S512x1 1 := andi main_v36 main_v38
  let main_cst_5 : FVec F S_ .f32 := constant S_ .f32 0x00000000#32
  fn_part2 (F := F) main_v1 main_v6 main_v8 main_v15 main_v18 main_v21 main_v24 main_v25 main_v39 main_cst_5

def fn {F : FTy → Type} [FloatOps F] (main_arg0 : FVec F S4x384x32x32 .f32) (main_arg1 : FVec F S512x6 .f32) (main_arg2 : IVec S_ 32) : IVec S512x15 1 :=
  let main_v0 : FVec F S_ .f32 := sitofp .f32 main_arg2
  let main_cst : FVec F S_ .f32 := constant S_ .f32 0x42000000#32
  let main_v1 : FVec F S_ .f32 := Host.divf main_cst main_v0
  let main_v2 : IVec S15 32 := iotaInDim S15 32 0
  let main_c : IVec S_ 32 := constantI S_ 32 13#32
  let main_v3 : IVec S15 32 := broadcastInDim S15 ![] bcast_S_S15 main_c
  let main_v4 : IVec S15 32 := minsi main_v2 main_v3
  let main_v5 : FVec F S15 .f32 := sitofp .f32 main_v4
  let main_v6 : FVec F S1x15 .f32 := broadcastInDim S1x15 ![1] bcast_S15_S1x15_1 main_v5
  let main_v7 : FVec F S15 .f32 := sitofp .f32 main_v2
  let main_v8 : FVec F S1x15 .f32 := broadcastInDim S1x15 ![1] bcast_S15_S1x15_1 main_v7
  let main_v9 : FVec F S512x1 .f32 := (extractStridedSlice S512x1 ![0, 0] · slices_S512x6_S512x1_0_0) main_arg1
  let main_v10 : FVec F S512 .f32 := shapeCast S512 main_v9 shapeCasts_S512x1_S512
  let main_v11 : IVec S512 32 := fptosi 32 main_v10
  let main_v12 : IVec S512x1 32 := broadcastInDim S512x1 ![0] bcast_S512_S512x1_0 main_v11
  let main_v13 : FVec F S512x1 .f32 := (extractStridedSlice S512x1 ![0, 2] · slices_S512x6_S512x1_0_2) main_arg1
  let main_v14 : FVec F S512 .f32 := shapeCast S512 main_v13 shapeCasts_S512x1_S512
  let main_v15 : FVec F S512x1 .f32 := broadcastInDim S512x1 ![0] bcast_S512_S512x1_0 main_v14
  let main_v16 : FVec F S512x1 .f32 := (extractStridedSlice S512x1 ![0, 3] · slices_S512x6_S512x1_0_3) main_arg1
  let main_v17 : FVec F S512 .f32 := shapeCast S512 main_v16 shapeCasts_S512x1_S512
  let main_v18 : FVec F S512x1 .f32 := broadcastInDim S512x1 ![0] bcast_S512_S512x1_0 main_v17
  let main_v19 : FVec F S512x1 .f32 := (extractStridedSlice S512x1 ![0, 4] · slices_S512x6_S512x1_0_4) main_arg1
  let main_v20 : FVec F S512 .f32 := shapeCast S512 main_v19 shapeCasts_S512x1_S512
  let main_v21 : FVec F S512x1 .f32 := broadcastInDim S512x1 ![0] bcast_S512_S512x1_0 main_v20
  fn_part1 (F := F) main_arg1 main_arg2 main_v0 main_v1 main_v6 main_v8 main_v12 main_v15 main_v18 main_v21
-- ==== Kernel.lean ====
abbrev S4x384x32x32 : Shape := ⟨4, ![4, 384, 32, 32]⟩
abbrev S512x6 : Shape := ⟨2, ![512, 6]⟩
abbrev S_ : Shape := ⟨0, ![]⟩
abbrev S512x1 : Shape := ⟨2, ![512, 1]⟩
abbrev S512 : Shape := ⟨1, ![512]⟩
abbrev S2560 : Shape := ⟨1, ![2560]⟩
abbrev S4x32x32x384 : Shape := ⟨4, ![4, 32, 32, 384]⟩
abbrev S4096x384 : Shape := ⟨2, ![4096, 384]⟩
abbrev S4096x32x12 : Shape := ⟨3, ![4096, 32, 12]⟩
abbrev S32x4096x12 : Shape := ⟨3, ![32, 4096, 12]⟩
abbrev S32x49152 : Shape := ⟨2, ![32, 49152]⟩
abbrev S512x75264 : Shape := ⟨2, ![512, 75264]⟩
abbrev S49152 : Shape := ⟨1, ![49152]⟩
abbrev S2x8x2368 : Shape := ⟨3, ![2, 8, 2368]⟩
abbrev S2 : Shape := ⟨1, ![2]⟩
abbrev S1x49152 : Shape := ⟨2, ![1, 49152]⟩
abbrev S16 : Shape := ⟨1, ![16]⟩
abbrev S1x8x2352 : Shape := ⟨3, ![1, 8, 2352]⟩
abbrev S8x2352 : Shape := ⟨2, ![8, 2352]⟩
abbrev S1 : Shape := ⟨1, ![1]⟩
abbrev S1x1x16 : Shape := ⟨3, ![1, 1, 16]⟩
abbrev S512x384x14x14 : Shape := ⟨4, ![512, 384, 14, 14]⟩

abbrev nBuf : Table → Nat
  | .hbm => 38
  | .local .scVector .vmem => 3
  | _ => 0

abbrev bufTy : (tb : Table) → Fin (nBuf tb) → BufTy
  | .hbm, ⟨0, _⟩ => ⟨S4x384x32x32, .f32⟩
  | .hbm, ⟨1, _⟩ => ⟨S512x6, .f32⟩
  | .hbm, ⟨2, _⟩ => ⟨S_, .i32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S512x1, .f32⟩
  | .hbm, ⟨7, _⟩ => ⟨S512, .f32⟩
  | .hbm, ⟨8, _⟩ => ⟨S512x1, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512x1, .f32⟩
  | .hbm, ⟨13, _⟩ => ⟨S512, .f32⟩
  | .hbm, ⟨14, _⟩ => ⟨S512, .f32⟩
  | .hbm, ⟨15, _⟩ => ⟨S512, .f32⟩
  | .hbm, ⟨16, _⟩ => ⟨S512x1, .f32⟩
  | .hbm, ⟨17, _⟩ => ⟨S512, .f32⟩
  | .hbm, ⟨18, _⟩ => ⟨S512x1, .f32⟩
  | .hbm, ⟨19, _⟩ => ⟨S512, .f32⟩
  | .hbm, ⟨20, _⟩ => ⟨S512, .f32⟩
  | .hbm, ⟨21, _⟩ => ⟨S512, .f32⟩
  | .hbm, ⟨22, _⟩ => ⟨S512, .f32⟩
  | .hbm, ⟨23, _⟩ => ⟨S512x1, .f32⟩
  | .hbm, ⟨24, _⟩ => ⟨S512, .f32⟩
  | .hbm, ⟨25, _⟩ => ⟨S512x1, .f32⟩
  | .hbm, ⟨26, _⟩ => ⟨S512, .f32⟩
  | .hbm, ⟨27, _⟩ => ⟨S512, .f32⟩
  | .hbm, ⟨28, _⟩ => ⟨S512, .f32⟩
  | .hbm, ⟨29, _⟩ => ⟨S512, .f32⟩
  | .hbm, ⟨30, _⟩ => ⟨S2560, .f32⟩
  | .hbm, ⟨31, _⟩ => ⟨S4x32x32x384, .f32⟩
  | .hbm, ⟨32, _⟩ => ⟨S4096x384, .f32⟩
  | .hbm, ⟨33, _⟩ => ⟨S4096x32x12, .f32⟩
  | .hbm, ⟨34, _⟩ => ⟨S32x4096x12, .f32⟩
  | .hbm, ⟨35, _⟩ => ⟨S32x49152, .f32⟩
  | .hbm, ⟨36, _⟩ => ⟨S512x75264, .f32⟩
  | .hbm, ⟨37, _⟩ => ⟨S512x384x14x14, .f32⟩
  | .local .scVector .vmem, ⟨0, _⟩ => ⟨S49152, .f32⟩
  | .local .scVector .vmem, ⟨1, _⟩ => ⟨S2560, .f32⟩
  | .local .scVector .vmem, ⟨2, _⟩ => ⟨S2x8x2368, .f32⟩
  | _, _ => ⟨S4x384x32x32, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v31_scv : Ref sig .scVector := ⟨.hbm, 35, rfl⟩
abbrev main_v26_scv : Ref sig .scVector := ⟨.hbm, 30, rfl⟩
abbrev main_v32_scv : Ref sig .scVector := ⟨.hbm, 36, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_19_r0 : BitVec 32 := 0#32
  ![v1.toNat, 0]
@[reducible] def k0_t1_loop : Scf.Loop 32 :=
  let c0_i32_0 : BitVec 32 := 0#32
  let c64_i32 : BitVec 32 := 64#32
  let v4 : BitVec 32 := Scalar.addi c0_i32_0 c64_i32
  let c1_i32 : BitVec 32 := 1#32
  ⟨c0_i32_0, v4, c1_i32⟩
def k0_cond1 (k0_t1 : Fin k0_t1_loop.trips) : BitVec 1 :=
  let c0_i32_0 : BitVec 32 := 0#32
  let c1_i32 : BitVec 32 := 1#32
  let arg9 : BitVec 32 := Scf.iv c0_i32_0 c1_i32 k0_t1
  let c2_i32_24 : BitVec 32 := 2#32
  let v34 : BitVec 1 := Scalar.cmpi .sge arg9 c2_i32_24
  let v35 : BitVec 32 := Scalar.extui v34
  let c0_i32_25 : BitVec 32 := 0#32
  let v36 : BitVec 1 := Scalar.cmpi .ne v35 c0_i32_25
  v36

def k0_off2 (i : grid0.Coords) : Fin 2 → Nat :=
  let c0_i32_41 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c12_i32 : BitVec 32 := 12#32
  let v2 : BitVec 32 := Scalar.muli v1 c12_i32
  let c196_i32_37 : BitVec 32 := 196#32
  let v49 : BitVec 32 := Scalar.muli v2 c196_i32_37
  ![0, v49.toNat]
def k0_off3 (k0_t1 : Fin k0_t1_loop.trips) : Fin 1 → Nat :=
  let c0_i32_0 : BitVec 32 := 0#32
  let c1_i32 : BitVec 32 := 1#32
  let arg9 : BitVec 32 := Scf.iv c0_i32_0 c1_i32 k0_t1
  let c2_i32 : BitVec 32 := 2#32
  let c0_i32_19 : BitVec 32 := 0#32
  let v24 : BitVec 1 := Scalar.cmpi .eq c2_i32 c0_i32_19
  let c1_i32_20 : BitVec 32 := 1#32
  let v25 : BitVec 32 := Scalar.select v24 c1_i32_20 c2_i32
  let v26 : BitVec 32 := Scalar.remsi arg9 v25
  let c0_i32_22 : BitVec 32 := 0#32
  let v28 : BitVec 1 := Scalar.cmpi .slt v26 c0_i32_22
  let c0_i32_23 : BitVec 32 := 0#32
  let v29 : BitVec 1 := Scalar.cmpi .slt v25 c0_i32_23
  let v30 : BitVec 1 := Scalar.xori v28 v29
  let c0_i32_21 : BitVec 32 := 0#32
  let v27 : BitVec 1 := Scalar.cmpi .ne v26 c0_i32_21
  let v31 : BitVec 1 := Scalar.andi v30 v27
  let v32 : BitVec 32 := Scalar.addi v26 v25
  let v33 : BitVec 32 := Scalar.select v31 v32 v26
  ![v33.toNat]
@[reducible] def k0_t2_loop : Scf.Loop 32 :=
  let c0_i32_27 : BitVec 32 := 0#32
  let c8_i32 : BitVec 32 := 8#32
  let v37 : BitVec 32 := Scalar.addi c0_i32_27 c8_i32
  let c1_i32_28 : BitVec 32 := 1#32
  ⟨c0_i32_27, v37, c1_i32_28⟩

def k0_chk1 (v51 : IVec S16 32) : Prop :=
  (∀ a x, ((![v51] : Fin 1 → IVec S16 32) a x).toNat < S2560.size a)
theorem k0_idx1_inb : ∀ (v51 : IVec S16 32) (k0_hw1 : k0_chk1 v51), ∀ a x, ((![v51] : Fin 1 → IVec S16 32) a x).toNat < S2560.size a := fun v51 k0_hw1 => k0_hw1

def k0_chk2 (v54 : IVec S16 32) : Prop :=
  (∀ a x, ((![v54] : Fin 1 → IVec S16 32) a x).toNat < S2560.size a)
theorem k0_idx2_inb : ∀ (v54 : IVec S16 32) (k0_hw2 : k0_chk2 v54), ∀ a x, ((![v54] : Fin 1 → IVec S16 32) a x).toNat < S2560.size a := fun v54 k0_hw2 => k0_hw2

def k0_chk3 (v57 : IVec S16 32) : Prop :=
  (∀ a x, ((![v57] : Fin 1 → IVec S16 32) a x).toNat < S2560.size a)
theorem k0_idx3_inb : ∀ (v57 : IVec S16 32) (k0_hw3 : k0_chk3 v57), ∀ a x, ((![v57] : Fin 1 → IVec S16 32) a x).toNat < S2560.size a := fun v57 k0_hw3 => k0_hw3

def k0_chk4 (v60 : IVec S16 32) : Prop :=
  (∀ a x, ((![v60] : Fin 1 → IVec S16 32) a x).toNat < S2560.size a)
theorem k0_idx4_inb : ∀ (v60 : IVec S16 32) (k0_hw4 : k0_chk4 v60), ∀ a x, ((![v60] : Fin 1 → IVec S16 32) a x).toNat < S2560.size a := fun v60 k0_hw4 => k0_hw4

def k0_chk5 (v65 : IVec S16 32) : Prop :=
  (∀ a x, ((![v65] : Fin 1 → IVec S16 32) a x).toNat < S2560.size a)
theorem k0_idx5_inb : ∀ (v65 : IVec S16 32) (k0_hw5 : k0_chk5 v65), ∀ a x, ((![v65] : Fin 1 → IVec S16 32) a x).toNat < S2560.size a := fun v65 k0_hw5 => k0_hw5
@[reducible] def k0_t3_loop : Scf.Loop 32 :=
  let c0_i32_41 : BitVec 32 := 0#32
  let c13_i32 : BitVec 32 := 13#32
  let v72 : BitVec 32 := Scalar.addi c0_i32_41 c13_i32
  let c1_i32_42 : BitVec 32 := 1#32
  ⟨c0_i32_41, v72, c1_i32_42⟩

def k0_chk6 (v135 : IVec S16 32) : Prop :=
  (∀ a x, ((![v135] : Fin 1 → IVec S16 32) a x).toNat < S49152.size a)
theorem k0_idx6_inb : ∀ (v135 : IVec S16 32) (k0_hw6 : k0_chk6 v135), ∀ a x, ((![v135] : Fin 1 → IVec S16 32) a x).toNat < S49152.size a := fun v135 k0_hw6 => k0_hw6

def k0_chk7 (v139 : IVec S16 32) : Prop :=
  (∀ a x, ((![v139] : Fin 1 → IVec S16 32) a x).toNat < S49152.size a)
theorem k0_idx7_inb : ∀ (v139 : IVec S16 32) (k0_hw7 : k0_chk7 v139), ∀ a x, ((![v139] : Fin 1 → IVec S16 32) a x).toNat < S49152.size a := fun v139 k0_hw7 => k0_hw7

def k0_chk8 (v144 : IVec S16 32) : Prop :=
  (∀ a x, ((![v144] : Fin 1 → IVec S16 32) a x).toNat < S49152.size a)
theorem k0_idx8_inb : ∀ (v144 : IVec S16 32) (k0_hw8 : k0_chk8 v144), ∀ a x, ((![v144] : Fin 1 → IVec S16 32) a x).toNat < S49152.size a := fun v144 k0_hw8 => k0_hw8

def k0_chk9 (v149 : IVec S16 32) : Prop :=
  (∀ a x, ((![v149] : Fin 1 → IVec S16 32) a x).toNat < S49152.size a)
theorem k0_idx9_inb : ∀ (v149 : IVec S16 32) (k0_hw9 : k0_chk9 v149), ∀ a x, ((![v149] : Fin 1 → IVec S16 32) a x).toNat < S49152.size a := fun v149 k0_hw9 => k0_hw9
def k0_off4 (k0_t1 : Fin k0_t1_loop.trips) (k0_t2 : Fin k0_t2_loop.trips) (k0_t3 : Fin k0_t3_loop.trips) : Fin 3 → Nat :=
  let c0_i32_0 : BitVec 32 := 0#32
  let c1_i32 : BitVec 32 := 1#32
  let arg9 : BitVec 32 := Scf.iv c0_i32_0 c1_i32 k0_t1
  let c2_i32 : BitVec 32 := 2#32
  let c0_i32_19 : BitVec 32 := 0#32
  let v24 : BitVec 1 := Scalar.cmpi .eq c2_i32 c0_i32_19
  let c1_i32_20 : BitVec 32 := 1#32
  let v25 : BitVec 32 := Scalar.select v24 c1_i32_20 c2_i32
  let v26 : BitVec 32 := Scalar.remsi arg9 v25
  let c0_i32_22 : BitVec 32 := 0#32
  let v28 : BitVec 1 := Scalar.cmpi .slt v26 c0_i32_22
  let c0_i32_23 : BitVec 32 := 0#32
  let v29 : BitVec 1 := Scalar.cmpi .slt v25 c0_i32_23
  let v30 : BitVec 1 := Scalar.xori v28 v29
  let c0_i32_21 : BitVec 32 := 0#32
  let v27 : BitVec 1 := Scalar.cmpi .ne v26 c0_i32_21
  let v31 : BitVec 1 := Scalar.andi v30 v27
  let v32 : BitVec 32 := Scalar.addi v26 v25
  let v33 : BitVec 32 := Scalar.select v31 v32 v26
  let v154 : Index := Scalar.indexCast v33
  let c0_i32_27 : BitVec 32 := 0#32
  let c1_i32_28 : BitVec 32 := 1#32
  let arg11 : BitVec 32 := Scf.iv c0_i32_27 c1_i32_28 k0_t2
  let v155 : Index := Scalar.indexCast arg11
  let c0_i32_64 : BitVec 32 := 0#32
  let c12_i32_45 : BitVec 32 := 12#32
  let c0_i32_41 : BitVec 32 := 0#32
  let c1_i32_42 : BitVec 32 := 1#32
  let arg13 : BitVec 32 := Scf.iv c0_i32_41 c1_i32_42 k0_t3
  let v74 : BitVec 32 := Scalar.subi c12_i32_45 arg13
  let c16_i32_59 : BitVec 32 := 16#32
  let v133 : BitVec 32 := Scalar.muli v74 c16_i32_59
  let v153 : BitVec 32 := Scalar.addi c0_i32_64 v133
  let v156 : Index := Scalar.indexCast v153
  ![v154.toNat, v155.toNat, v156.toNat]

def k0_chk10 (v159 : IVec S16 32) : Prop :=
  (∀ a x, ((![v159] : Fin 1 → IVec S16 32) a x).toNat < S49152.size a)
theorem k0_idx10_inb : ∀ (v159 : IVec S16 32) (k0_hw10 : k0_chk10 v159), ∀ a x, ((![v159] : Fin 1 → IVec S16 32) a x).toNat < S49152.size a := fun v159 k0_hw10 => k0_hw10

def k0_chk11 (v163 : IVec S16 32) : Prop :=
  (∀ a x, ((![v163] : Fin 1 → IVec S16 32) a x).toNat < S49152.size a)
theorem k0_idx11_inb : ∀ (v163 : IVec S16 32) (k0_hw11 : k0_chk11 v163), ∀ a x, ((![v163] : Fin 1 → IVec S16 32) a x).toNat < S49152.size a := fun v163 k0_hw11 => k0_hw11

def k0_chk12 (v168 : IVec S16 32) : Prop :=
  (∀ a x, ((![v168] : Fin 1 → IVec S16 32) a x).toNat < S49152.size a)
theorem k0_idx12_inb : ∀ (v168 : IVec S16 32) (k0_hw12 : k0_chk12 v168), ∀ a x, ((![v168] : Fin 1 → IVec S16 32) a x).toNat < S49152.size a := fun v168 k0_hw12 => k0_hw12

def k0_chk13 (v173 : IVec S16 32) : Prop :=
  (∀ a x, ((![v173] : Fin 1 → IVec S16 32) a x).toNat < S49152.size a)
theorem k0_idx13_inb : ∀ (v173 : IVec S16 32) (k0_hw13 : k0_chk13 v173), ∀ a x, ((![v173] : Fin 1 → IVec S16 32) a x).toNat < S49152.size a := fun v173 k0_hw13 => k0_hw13
def k0_off5 (k0_t1 : Fin k0_t1_loop.trips) (k0_t2 : Fin k0_t2_loop.trips) (k0_t3 : Fin k0_t3_loop.trips) : Fin 3 → Nat :=
  let c0_i32_0 : BitVec 32 := 0#32
  let c1_i32 : BitVec 32 := 1#32
  let arg9 : BitVec 32 := Scf.iv c0_i32_0 c1_i32 k0_t1
  let c2_i32 : BitVec 32 := 2#32
  let c0_i32_19 : BitVec 32 := 0#32
  let v24 : BitVec 1 := Scalar.cmpi .eq c2_i32 c0_i32_19
  let c1_i32_20 : BitVec 32 := 1#32
  let v25 : BitVec 32 := Scalar.select v24 c1_i32_20 c2_i32
  let v26 : BitVec 32 := Scalar.remsi arg9 v25
  let c0_i32_22 : BitVec 32 := 0#32
  let v28 : BitVec 1 := Scalar.cmpi .slt v26 c0_i32_22
  let c0_i32_23 : BitVec 32 := 0#32
  let v29 : BitVec 1 := Scalar.cmpi .slt v25 c0_i32_23
  let v30 : BitVec 1 := Scalar.xori v28 v29
  let c0_i32_21 : BitVec 32 := 0#32
  let v27 : BitVec 1 := Scalar.cmpi .ne v26 c0_i32_21
  let v31 : BitVec 1 := Scalar.andi v30 v27
  let v32 : BitVec 32 := Scalar.addi v26 v25
  let v33 : BitVec 32 := Scalar.select v31 v32 v26
  let v178 : Index := Scalar.indexCast v33
  let c0_i32_27 : BitVec 32 := 0#32
  let c1_i32_28 : BitVec 32 := 1#32
  let arg11 : BitVec 32 := Scf.iv c0_i32_27 c1_i32_28 k0_t2
  let v179 : Index := Scalar.indexCast arg11
  let c196_i32_69 : BitVec 32 := 196#32
  let c12_i32_45 : BitVec 32 := 12#32
  let c0_i32_41 : BitVec 32 := 0#32
  let c1_i32_42 : BitVec 32 := 1#32
  let arg13 : BitVec 32 := Scf.iv c0_i32_41 c1_i32_42 k0_t3
  let v74 : BitVec 32 := Scalar.subi c12_i32_45 arg13
  let c16_i32_59 : BitVec 32 := 16#32
  let v133 : BitVec 32 := Scalar.muli v74 c16_i32_59
  let v177 : BitVec 32 := Scalar.addi c196_i32_69 v133
  let v180 : Index := Scalar.indexCast v177
  ![v178.toNat, v179.toNat, v180.toNat]

def k0_chk14 (v183 : IVec S16 32) : Prop :=
  (∀ a x, ((![v183] : Fin 1 → IVec S16 32) a x).toNat < S49152.size a)
theorem k0_idx14_inb : ∀ (v183 : IVec S16 32) (k0_hw14 : k0_chk14 v183), ∀ a x, ((![v183] : Fin 1 → IVec S16 32) a x).toNat < S49152.size a := fun v183 k0_hw14 => k0_hw14

def k0_chk15 (v187 : IVec S16 32) : Prop :=
  (∀ a x, ((![v187] : Fin 1 → IVec S16 32) a x).toNat < S49152.size a)
theorem k0_idx15_inb : ∀ (v187 : IVec S16 32) (k0_hw15 : k0_chk15 v187), ∀ a x, ((![v187] : Fin 1 → IVec S16 32) a x).toNat < S49152.size a := fun v187 k0_hw15 => k0_hw15

def k0_chk16 (v192 : IVec S16 32) : Prop :=
  (∀ a x, ((![v192] : Fin 1 → IVec S16 32) a x).toNat < S49152.size a)
theorem k0_idx16_inb : ∀ (v192 : IVec S16 32) (k0_hw16 : k0_chk16 v192), ∀ a x, ((![v192] : Fin 1 → IVec S16 32) a x).toNat < S49152.size a := fun v192 k0_hw16 => k0_hw16

def k0_chk17 (v197 : IVec S16 32) : Prop :=
  (∀ a x, ((![v197] : Fin 1 → IVec S16 32) a x).toNat < S49152.size a)
theorem k0_idx17_inb : ∀ (v197 : IVec S16 32) (k0_hw17 : k0_chk17 v197), ∀ a x, ((![v197] : Fin 1 → IVec S16 32) a x).toNat < S49152.size a := fun v197 k0_hw17 => k0_hw17
def k0_off6 (k0_t1 : Fin k0_t1_loop.trips) (k0_t2 : Fin k0_t2_loop.trips) (k0_t3 : Fin k0_t3_loop.trips) : Fin 3 → Nat :=
  let c0_i32_0 : BitVec 32 := 0#32
  let c1_i32 : BitVec 32 := 1#32
  let arg9 : BitVec 32 := Scf.iv c0_i32_0 c1_i32 k0_t1
  let c2_i32 : BitVec 32 := 2#32
  let c0_i32_19 : BitVec 32 := 0#32
  let v24 : BitVec 1 := Scalar.cmpi .eq c2_i32 c0_i32_19
  let c1_i32_20 : BitVec 32 := 1#32
  let v25 : BitVec 32 := Scalar.select v24 c1_i32_20 c2_i32
  let v26 : BitVec 32 := Scalar.remsi arg9 v25
  let c0_i32_22 : BitVec 32 := 0#32
  let v28 : BitVec 1 := Scalar.cmpi .slt v26 c0_i32_22
  let c0_i32_23 : BitVec 32 := 0#32
  let v29 : BitVec 1 := Scalar.cmpi .slt v25 c0_i32_23
  let v30 : BitVec 1 := Scalar.xori v28 v29
  let c0_i32_21 : BitVec 32 := 0#32
  let v27 : BitVec 1 := Scalar.cmpi .ne v26 c0_i32_21
  let v31 : BitVec 1 := Scalar.andi v30 v27
  let v32 : BitVec 32 := Scalar.addi v26 v25
  let v33 : BitVec 32 := Scalar.select v31 v32 v26
  let v202 : Index := Scalar.indexCast v33
  let c0_i32_27 : BitVec 32 := 0#32
  let c1_i32_28 : BitVec 32 := 1#32
  let arg11 : BitVec 32 := Scf.iv c0_i32_27 c1_i32_28 k0_t2
  let v203 : Index := Scalar.indexCast arg11
  let c392_i32 : BitVec 32 := 392#32
  let c12_i32_45 : BitVec 32 := 12#32
  let c0_i32_41 : BitVec 32 := 0#32
  let c1_i32_42 : BitVec 32 := 1#32
  let arg13 : BitVec 32 := Scf.iv c0_i32_41 c1_i32_42 k0_t3
  let v74 : BitVec 32 := Scalar.subi c12_i32_45 arg13
  let c16_i32_59 : BitVec 32 := 16#32
  let v133 : BitVec 32 := Scalar.muli v74 c16_i32_59
  let v201 : BitVec 32 := Scalar.addi c392_i32 v133
  let v204 : Index := Scalar.indexCast v201
  ![v202.toNat, v203.toNat, v204.toNat]

def k0_chk18 (v207 : IVec S16 32) : Prop :=
  (∀ a x, ((![v207] : Fin 1 → IVec S16 32) a x).toNat < S49152.size a)
theorem k0_idx18_inb : ∀ (v207 : IVec S16 32) (k0_hw18 : k0_chk18 v207), ∀ a x, ((![v207] : Fin 1 → IVec S16 32) a x).toNat < S49152.size a := fun v207 k0_hw18 => k0_hw18

def k0_chk19 (v211 : IVec S16 32) : Prop :=
  (∀ a x, ((![v211] : Fin 1 → IVec S16 32) a x).toNat < S49152.size a)
theorem k0_idx19_inb : ∀ (v211 : IVec S16 32) (k0_hw19 : k0_chk19 v211), ∀ a x, ((![v211] : Fin 1 → IVec S16 32) a x).toNat < S49152.size a := fun v211 k0_hw19 => k0_hw19

def k0_chk20 (v216 : IVec S16 32) : Prop :=
  (∀ a x, ((![v216] : Fin 1 → IVec S16 32) a x).toNat < S49152.size a)
theorem k0_idx20_inb : ∀ (v216 : IVec S16 32) (k0_hw20 : k0_chk20 v216), ∀ a x, ((![v216] : Fin 1 → IVec S16 32) a x).toNat < S49152.size a := fun v216 k0_hw20 => k0_hw20

def k0_chk21 (v221 : IVec S16 32) : Prop :=
  (∀ a x, ((![v221] : Fin 1 → IVec S16 32) a x).toNat < S49152.size a)
theorem k0_idx21_inb : ∀ (v221 : IVec S16 32) (k0_hw21 : k0_chk21 v221), ∀ a x, ((![v221] : Fin 1 → IVec S16 32) a x).toNat < S49152.size a := fun v221 k0_hw21 => k0_hw21
def k0_off7 (k0_t1 : Fin k0_t1_loop.trips) (k0_t2 : Fin k0_t2_loop.trips) (k0_t3 : Fin k0_t3_loop.trips) : Fin 3 → Nat :=
  let c0_i32_0 : BitVec 32 := 0#32
  let c1_i32 : BitVec 32 := 1#32
  let arg9 : BitVec 32 := Scf.iv c0_i32_0 c1_i32 k0_t1
  let c2_i32 : BitVec 32 := 2#32
  let c0_i32_19 : BitVec 32 := 0#32
  let v24 : BitVec 1 := Scalar.cmpi .eq c2_i32 c0_i32_19
  let c1_i32_20 : BitVec 32 := 1#32
  let v25 : BitVec 32 := Scalar.select v24 c1_i32_20 c2_i32
  let v26 : BitVec 32 := Scalar.remsi arg9 v25
  let c0_i32_22 : BitVec 32 := 0#32
  let v28 : BitVec 1 := Scalar.cmpi .slt v26 c0_i32_22
  let c0_i32_23 : BitVec 32 := 0#32
  let v29 : BitVec 1 := Scalar.cmpi .slt v25 c0_i32_23
  let v30 : BitVec 1 := Scalar.xori v28 v29
  let c0_i32_21 : BitVec 32 := 0#32
  let v27 : BitVec 1 := Scalar.cmpi .ne v26 c0_i32_21
  let v31 : BitVec 1 := Scalar.andi v30 v27
  let v32 : BitVec 32 := Scalar.addi v26 v25
  let v33 : BitVec 32 := Scalar.select v31 v32 v26
  let v226 : Index := Scalar.indexCast v33
  let c0_i32_27 : BitVec 32 := 0#32
  let c1_i32_28 : BitVec 32 := 1#32
  let arg11 : BitVec 32 := Scf.iv c0_i32_27 c1_i32_28 k0_t2
  let v227 : Index := Scalar.indexCast arg11
  let c588_i32 : BitVec 32 := 588#32
  let c12_i32_45 : BitVec 32 := 12#32
  let c0_i32_41 : BitVec 32 := 0#32
  let c1_i32_42 : BitVec 32 := 1#32
  let arg13 : BitVec 32 := Scf.iv c0_i32_41 c1_i32_42 k0_t3
  let v74 : BitVec 32 := Scalar.subi c12_i32_45 arg13
  let c16_i32_59 : BitVec 32 := 16#32
  let v133 : BitVec 32 := Scalar.muli v74 c16_i32_59
  let v225 : BitVec 32 := Scalar.addi c588_i32 v133
  let v228 : Index := Scalar.indexCast v225
  ![v226.toNat, v227.toNat, v228.toNat]

def k0_chk22 (v231 : IVec S16 32) : Prop :=
  (∀ a x, ((![v231] : Fin 1 → IVec S16 32) a x).toNat < S49152.size a)
theorem k0_idx22_inb : ∀ (v231 : IVec S16 32) (k0_hw22 : k0_chk22 v231), ∀ a x, ((![v231] : Fin 1 → IVec S16 32) a x).toNat < S49152.size a := fun v231 k0_hw22 => k0_hw22

def k0_chk23 (v235 : IVec S16 32) : Prop :=
  (∀ a x, ((![v235] : Fin 1 → IVec S16 32) a x).toNat < S49152.size a)
theorem k0_idx23_inb : ∀ (v235 : IVec S16 32) (k0_hw23 : k0_chk23 v235), ∀ a x, ((![v235] : Fin 1 → IVec S16 32) a x).toNat < S49152.size a := fun v235 k0_hw23 => k0_hw23

def k0_chk24 (v240 : IVec S16 32) : Prop :=
  (∀ a x, ((![v240] : Fin 1 → IVec S16 32) a x).toNat < S49152.size a)
theorem k0_idx24_inb : ∀ (v240 : IVec S16 32) (k0_hw24 : k0_chk24 v240), ∀ a x, ((![v240] : Fin 1 → IVec S16 32) a x).toNat < S49152.size a := fun v240 k0_hw24 => k0_hw24

def k0_chk25 (v245 : IVec S16 32) : Prop :=
  (∀ a x, ((![v245] : Fin 1 → IVec S16 32) a x).toNat < S49152.size a)
theorem k0_idx25_inb : ∀ (v245 : IVec S16 32) (k0_hw25 : k0_chk25 v245), ∀ a x, ((![v245] : Fin 1 → IVec S16 32) a x).toNat < S49152.size a := fun v245 k0_hw25 => k0_hw25
def k0_off8 (k0_t1 : Fin k0_t1_loop.trips) (k0_t2 : Fin k0_t2_loop.trips) (k0_t3 : Fin k0_t3_loop.trips) : Fin 3 → Nat :=
  let c0_i32_0 : BitVec 32 := 0#32
  let c1_i32 : BitVec 32 := 1#32
  let arg9 : BitVec 32 := Scf.iv c0_i32_0 c1_i32 k0_t1
  let c2_i32 : BitVec 32 := 2#32
  let c0_i32_19 : BitVec 32 := 0#32
  let v24 : BitVec 1 := Scalar.cmpi .eq c2_i32 c0_i32_19
  let c1_i32_20 : BitVec 32 := 1#32
  let v25 : BitVec 32 := Scalar.select v24 c1_i32_20 c2_i32
  let v26 : BitVec 32 := Scalar.remsi arg9 v25
  let c0_i32_22 : BitVec 32 := 0#32
  let v28 : BitVec 1 := Scalar.cmpi .slt v26 c0_i32_22
  let c0_i32_23 : BitVec 32 := 0#32
  let v29 : BitVec 1 := Scalar.cmpi .slt v25 c0_i32_23
  let v30 : BitVec 1 := Scalar.xori v28 v29
  let c0_i32_21 : BitVec 32 := 0#32
  let v27 : BitVec 1 := Scalar.cmpi .ne v26 c0_i32_21
  let v31 : BitVec 1 := Scalar.andi v30 v27
  let v32 : BitVec 32 := Scalar.addi v26 v25
  let v33 : BitVec 32 := Scalar.select v31 v32 v26
  let v250 : Index := Scalar.indexCast v33
  let c0_i32_27 : BitVec 32 := 0#32
  let c1_i32_28 : BitVec 32 := 1#32
  let arg11 : BitVec 32 := Scf.iv c0_i32_27 c1_i32_28 k0_t2
  let v251 : Index := Scalar.indexCast arg11
  let c784_i32 : BitVec 32 := 784#32
  let c12_i32_45 : BitVec 32 := 12#32
  let c0_i32_41 : BitVec 32 := 0#32
  let c1_i32_42 : BitVec 32 := 1#32
  let arg13 : BitVec 32 := Scf.iv c0_i32_41 c1_i32_42 k0_t3
  let v74 : BitVec 32 := Scalar.subi c12_i32_45 arg13
  let c16_i32_59 : BitVec 32 := 16#32
  let v133 : BitVec 32 := Scalar.muli v74 c16_i32_59
  let v249 : BitVec 32 := Scalar.addi c784_i32 v133
  let v252 : Index := Scalar.indexCast v249
  ![v250.toNat, v251.toNat, v252.toNat]

def k0_chk26 (v255 : IVec S16 32) : Prop :=
  (∀ a x, ((![v255] : Fin 1 → IVec S16 32) a x).toNat < S49152.size a)
theorem k0_idx26_inb : ∀ (v255 : IVec S16 32) (k0_hw26 : k0_chk26 v255), ∀ a x, ((![v255] : Fin 1 → IVec S16 32) a x).toNat < S49152.size a := fun v255 k0_hw26 => k0_hw26

def k0_chk27 (v259 : IVec S16 32) : Prop :=
  (∀ a x, ((![v259] : Fin 1 → IVec S16 32) a x).toNat < S49152.size a)
theorem k0_idx27_inb : ∀ (v259 : IVec S16 32) (k0_hw27 : k0_chk27 v259), ∀ a x, ((![v259] : Fin 1 → IVec S16 32) a x).toNat < S49152.size a := fun v259 k0_hw27 => k0_hw27

def k0_chk28 (v264 : IVec S16 32) : Prop :=
  (∀ a x, ((![v264] : Fin 1 → IVec S16 32) a x).toNat < S49152.size a)
theorem k0_idx28_inb : ∀ (v264 : IVec S16 32) (k0_hw28 : k0_chk28 v264), ∀ a x, ((![v264] : Fin 1 → IVec S16 32) a x).toNat < S49152.size a := fun v264 k0_hw28 => k0_hw28

def k0_chk29 (v269 : IVec S16 32) : Prop :=
  (∀ a x, ((![v269] : Fin 1 → IVec S16 32) a x).toNat < S49152.size a)
theorem k0_idx29_inb : ∀ (v269 : IVec S16 32) (k0_hw29 : k0_chk29 v269), ∀ a x, ((![v269] : Fin 1 → IVec S16 32) a x).toNat < S49152.size a := fun v269 k0_hw29 => k0_hw29
def k0_off9 (k0_t1 : Fin k0_t1_loop.trips) (k0_t2 : Fin k0_t2_loop.trips) (k0_t3 : Fin k0_t3_loop.trips) : Fin 3 → Nat :=
  let c0_i32_0 : BitVec 32 := 0#32
  let c1_i32 : BitVec 32 := 1#32
  let arg9 : BitVec 32 := Scf.iv c0_i32_0 c1_i32 k0_t1
  let c2_i32 : BitVec 32 := 2#32
  let c0_i32_19 : BitVec 32 := 0#32
  let v24 : BitVec 1 := Scalar.cmpi .eq c2_i32 c0_i32_19
  let c1_i32_20 : BitVec 32 := 1#32
  let v25 : BitVec 32 := Scalar.select v24 c1_i32_20 c2_i32
  let v26 : BitVec 32 := Scalar.remsi arg9 v25
  let c0_i32_22 : BitVec 32 := 0#32
  let v28 : BitVec 1 := Scalar.cmpi .slt v26 c0_i32_22
  let c0_i32_23 : BitVec 32 := 0#32
  let v29 : BitVec 1 := Scalar.cmpi .slt v25 c0_i32_23
  let v30 : BitVec 1 := Scalar.xori v28 v29
  let c0_i32_21 : BitVec 32 := 0#32
  let v27 : BitVec 1 := Scalar.cmpi .ne v26 c0_i32_21
  let v31 : BitVec 1 := Scalar.andi v30 v27
  let v32 : BitVec 32 := Scalar.addi v26 v25
  let v33 : BitVec 32 := Scalar.select v31 v32 v26
  let v274 : Index := Scalar.indexCast v33
  let c0_i32_27 : BitVec 32 := 0#32
  let c1_i32_28 : BitVec 32 := 1#32
  let arg11 : BitVec 32 := Scf.iv c0_i32_27 c1_i32_28 k0_t2
  let v275 : Index := Scalar.indexCast arg11
  let c980_i32 : BitVec 32 := 980#32
  let c12_i32_45 : BitVec 32 := 12#32
  let c0_i32_41 : BitVec 32 := 0#32
  let c1_i32_42 : BitVec 32 := 1#32
  let arg13 : BitVec 32 := Scf.iv c0_i32_41 c1_i32_42 k0_t3
  let v74 : BitVec 32 := Scalar.subi c12_i32_45 arg13
  let c16_i32_59 : BitVec 32 := 16#32
  let v133 : BitVec 32 := Scalar.muli v74 c16_i32_59
  let v273 : BitVec 32 := Scalar.addi c980_i32 v133
  let v276 : Index := Scalar.indexCast v273
  ![v274.toNat, v275.toNat, v276.toNat]

def k0_chk30 (v279 : IVec S16 32) : Prop :=
  (∀ a x, ((![v279] : Fin 1 → IVec S16 32) a x).toNat < S49152.size a)
theorem k0_idx30_inb : ∀ (v279 : IVec S16 32) (k0_hw30 : k0_chk30 v279), ∀ a x, ((![v279] : Fin 1 → IVec S16 32) a x).toNat < S49152.size a := fun v279 k0_hw30 => k0_hw30

def k0_chk31 (v283 : IVec S16 32) : Prop :=
  (∀ a x, ((![v283] : Fin 1 → IVec S16 32) a x).toNat < S49152.size a)
theorem k0_idx31_inb : ∀ (v283 : IVec S16 32) (k0_hw31 : k0_chk31 v283), ∀ a x, ((![v283] : Fin 1 → IVec S16 32) a x).toNat < S49152.size a := fun v283 k0_hw31 => k0_hw31

def k0_chk32 (v288 : IVec S16 32) : Prop :=
  (∀ a x, ((![v288] : Fin 1 → IVec S16 32) a x).toNat < S49152.size a)
theorem k0_idx32_inb : ∀ (v288 : IVec S16 32) (k0_hw32 : k0_chk32 v288), ∀ a x, ((![v288] : Fin 1 → IVec S16 32) a x).toNat < S49152.size a := fun v288 k0_hw32 => k0_hw32

def k0_chk33 (v293 : IVec S16 32) : Prop :=
  (∀ a x, ((![v293] : Fin 1 → IVec S16 32) a x).toNat < S49152.size a)
theorem k0_idx33_inb : ∀ (v293 : IVec S16 32) (k0_hw33 : k0_chk33 v293), ∀ a x, ((![v293] : Fin 1 → IVec S16 32) a x).toNat < S49152.size a := fun v293 k0_hw33 => k0_hw33
def k0_off10 (k0_t1 : Fin k0_t1_loop.trips) (k0_t2 : Fin k0_t2_loop.trips) (k0_t3 : Fin k0_t3_loop.trips) : Fin 3 → Nat :=
  let c0_i32_0 : BitVec 32 := 0#32
  let c1_i32 : BitVec 32 := 1#32
  let arg9 : BitVec 32 := Scf.iv c0_i32_0 c1_i32 k0_t1
  let c2_i32 : BitVec 32 := 2#32
  let c0_i32_19 : BitVec 32 := 0#32
  let v24 : BitVec 1 := Scalar.cmpi .eq c2_i32 c0_i32_19
  let c1_i32_20 : BitVec 32 := 1#32
  let v25 : BitVec 32 := Scalar.select v24 c1_i32_20 c2_i32
  let v26 : BitVec 32 := Scalar.remsi arg9 v25
  let c0_i32_22 : BitVec 32 := 0#32
  let v28 : BitVec 1 := Scalar.cmpi .slt v26 c0_i32_22
  let c0_i32_23 : BitVec 32 := 0#32
  let v29 : BitVec 1 := Scalar.cmpi .slt v25 c0_i32_23
  let v30 : BitVec 1 := Scalar.xori v28 v29
  let c0_i32_21 : BitVec 32 := 0#32
  let v27 : BitVec 1 := Scalar.cmpi .ne v26 c0_i32_21
  let v31 : BitVec 1 := Scalar.andi v30 v27
  let v32 : BitVec 32 := Scalar.addi v26 v25
  let v33 : BitVec 32 := Scalar.select v31 v32 v26
  let v298 : Index := Scalar.indexCast v33
  let c0_i32_27 : BitVec 32 := 0#32
  let c1_i32_28 : BitVec 32 := 1#32
  let arg11 : BitVec 32 := Scf.iv c0_i32_27 c1_i32_28 k0_t2
  let v299 : Index := Scalar.indexCast arg11
  let c1176_i32 : BitVec 32 := 1176#32
  let c12_i32_45 : BitVec 32 := 12#32
  let c0_i32_41 : BitVec 32 := 0#32
  let c1_i32_42 : BitVec 32 := 1#32
  let arg13 : BitVec 32 := Scf.iv c0_i32_41 c1_i32_42 k0_t3
  let v74 : BitVec 32 := Scalar.subi c12_i32_45 arg13
  let c16_i32_59 : BitVec 32 := 16#32
  let v133 : BitVec 32 := Scalar.muli v74 c16_i32_59
  let v297 : BitVec 32 := Scalar.addi c1176_i32 v133
  let v300 : Index := Scalar.indexCast v297
  ![v298.toNat, v299.toNat, v300.toNat]

def k0_chk34 (v303 : IVec S16 32) : Prop :=
  (∀ a x, ((![v303] : Fin 1 → IVec S16 32) a x).toNat < S49152.size a)
theorem k0_idx34_inb : ∀ (v303 : IVec S16 32) (k0_hw34 : k0_chk34 v303), ∀ a x, ((![v303] : Fin 1 → IVec S16 32) a x).toNat < S49152.size a := fun v303 k0_hw34 => k0_hw34

def k0_chk35 (v307 : IVec S16 32) : Prop :=
  (∀ a x, ((![v307] : Fin 1 → IVec S16 32) a x).toNat < S49152.size a)
theorem k0_idx35_inb : ∀ (v307 : IVec S16 32) (k0_hw35 : k0_chk35 v307), ∀ a x, ((![v307] : Fin 1 → IVec S16 32) a x).toNat < S49152.size a := fun v307 k0_hw35 => k0_hw35

def k0_chk36 (v312 : IVec S16 32) : Prop :=
  (∀ a x, ((![v312] : Fin 1 → IVec S16 32) a x).toNat < S49152.size a)
theorem k0_idx36_inb : ∀ (v312 : IVec S16 32) (k0_hw36 : k0_chk36 v312), ∀ a x, ((![v312] : Fin 1 → IVec S16 32) a x).toNat < S49152.size a := fun v312 k0_hw36 => k0_hw36

def k0_chk37 (v317 : IVec S16 32) : Prop :=
  (∀ a x, ((![v317] : Fin 1 → IVec S16 32) a x).toNat < S49152.size a)
theorem k0_idx37_inb : ∀ (v317 : IVec S16 32) (k0_hw37 : k0_chk37 v317), ∀ a x, ((![v317] : Fin 1 → IVec S16 32) a x).toNat < S49152.size a := fun v317 k0_hw37 => k0_hw37
def k0_off11 (k0_t1 : Fin k0_t1_loop.trips) (k0_t2 : Fin k0_t2_loop.trips) (k0_t3 : Fin k0_t3_loop.trips) : Fin 3 → Nat :=
  let c0_i32_0 : BitVec 32 := 0#32
  let c1_i32 : BitVec 32 := 1#32
  let arg9 : BitVec 32 := Scf.iv c0_i32_0 c1_i32 k0_t1
  let c2_i32 : BitVec 32 := 2#32
  let c0_i32_19 : BitVec 32 := 0#32
  let v24 : BitVec 1 := Scalar.cmpi .eq c2_i32 c0_i32_19
  let c1_i32_20 : BitVec 32 := 1#32
  let v25 : BitVec 32 := Scalar.select v24 c1_i32_20 c2_i32
  let v26 : BitVec 32 := Scalar.remsi arg9 v25
  let c0_i32_22 : BitVec 32 := 0#32
  let v28 : BitVec 1 := Scalar.cmpi .slt v26 c0_i32_22
  let c0_i32_23 : BitVec 32 := 0#32
  let v29 : BitVec 1 := Scalar.cmpi .slt v25 c0_i32_23
  let v30 : BitVec 1 := Scalar.xori v28 v29
  let c0_i32_21 : BitVec 32 := 0#32
  let v27 : BitVec 1 := Scalar.cmpi .ne v26 c0_i32_21
  let v31 : BitVec 1 := Scalar.andi v30 v27
  let v32 : BitVec 32 := Scalar.addi v26 v25
  let v33 : BitVec 32 := Scalar.select v31 v32 v26
  let v322 : Index := Scalar.indexCast v33
  let c0_i32_27 : BitVec 32 := 0#32
  let c1_i32_28 : BitVec 32 := 1#32
  let arg11 : BitVec 32 := Scf.iv c0_i32_27 c1_i32_28 k0_t2
  let v323 : Index := Scalar.indexCast arg11
  let c1372_i32 : BitVec 32 := 1372#32
  let c12_i32_45 : BitVec 32 := 12#32
  let c0_i32_41 : BitVec 32 := 0#32
  let c1_i32_42 : BitVec 32 := 1#32
  let arg13 : BitVec 32 := Scf.iv c0_i32_41 c1_i32_42 k0_t3
  let v74 : BitVec 32 := Scalar.subi c12_i32_45 arg13
  let c16_i32_59 : BitVec 32 := 16#32
  let v133 : BitVec 32 := Scalar.muli v74 c16_i32_59
  let v321 : BitVec 32 := Scalar.addi c1372_i32 v133
  let v324 : Index := Scalar.indexCast v321
  ![v322.toNat, v323.toNat, v324.toNat]

def k0_chk38 (v327 : IVec S16 32) : Prop :=
  (∀ a x, ((![v327] : Fin 1 → IVec S16 32) a x).toNat < S49152.size a)
theorem k0_idx38_inb : ∀ (v327 : IVec S16 32) (k0_hw38 : k0_chk38 v327), ∀ a x, ((![v327] : Fin 1 → IVec S16 32) a x).toNat < S49152.size a := fun v327 k0_hw38 => k0_hw38

def k0_chk39 (v331 : IVec S16 32) : Prop :=
  (∀ a x, ((![v331] : Fin 1 → IVec S16 32) a x).toNat < S49152.size a)
theorem k0_idx39_inb : ∀ (v331 : IVec S16 32) (k0_hw39 : k0_chk39 v331), ∀ a x, ((![v331] : Fin 1 → IVec S16 32) a x).toNat < S49152.size a := fun v331 k0_hw39 => k0_hw39

def k0_chk40 (v336 : IVec S16 32) : Prop :=
  (∀ a x, ((![v336] : Fin 1 → IVec S16 32) a x).toNat < S49152.size a)
theorem k0_idx40_inb : ∀ (v336 : IVec S16 32) (k0_hw40 : k0_chk40 v336), ∀ a x, ((![v336] : Fin 1 → IVec S16 32) a x).toNat < S49152.size a := fun v336 k0_hw40 => k0_hw40

def k0_chk41 (v341 : IVec S16 32) : Prop :=
  (∀ a x, ((![v341] : Fin 1 → IVec S16 32) a x).toNat < S49152.size a)
theorem k0_idx41_inb : ∀ (v341 : IVec S16 32) (k0_hw41 : k0_chk41 v341), ∀ a x, ((![v341] : Fin 1 → IVec S16 32) a x).toNat < S49152.size a := fun v341 k0_hw41 => k0_hw41
def k0_off12 (k0_t1 : Fin k0_t1_loop.trips) (k0_t2 : Fin k0_t2_loop.trips) (k0_t3 : Fin k0_t3_loop.trips) : Fin 3 → Nat :=
  let c0_i32_0 : BitVec 32 := 0#32
  let c1_i32 : BitVec 32 := 1#32
  let arg9 : BitVec 32 := Scf.iv c0_i32_0 c1_i32 k0_t1
  let c2_i32 : BitVec 32 := 2#32
  let c0_i32_19 : BitVec 32 := 0#32
  let v24 : BitVec 1 := Scalar.cmpi .eq c2_i32 c0_i32_19
  let c1_i32_20 : BitVec 32 := 1#32
  let v25 : BitVec 32 := Scalar.select v24 c1_i32_20 c2_i32
  let v26 : BitVec 32 := Scalar.remsi arg9 v25
  let c0_i32_22 : BitVec 32 := 0#32
  let v28 : BitVec 1 := Scalar.cmpi .slt v26 c0_i32_22
  let c0_i32_23 : BitVec 32 := 0#32
  let v29 : BitVec 1 := Scalar.cmpi .slt v25 c0_i32_23
  let v30 : BitVec 1 := Scalar.xori v28 v29
  let c0_i32_21 : BitVec 32 := 0#32
  let v27 : BitVec 1 := Scalar.cmpi .ne v26 c0_i32_21
  let v31 : BitVec 1 := Scalar.andi v30 v27
  let v32 : BitVec 32 := Scalar.addi v26 v25
  let v33 : BitVec 32 := Scalar.select v31 v32 v26
  let v346 : Index := Scalar.indexCast v33
  let c0_i32_27 : BitVec 32 := 0#32
  let c1_i32_28 : BitVec 32 := 1#32
  let arg11 : BitVec 32 := Scf.iv c0_i32_27 c1_i32_28 k0_t2
  let v347 : Index := Scalar.indexCast arg11
  let c1568_i32 : BitVec 32 := 1568#32
  let c12_i32_45 : BitVec 32 := 12#32
  let c0_i32_41 : BitVec 32 := 0#32
  let c1_i32_42 : BitVec 32 := 1#32
  let arg13 : BitVec 32 := Scf.iv c0_i32_41 c1_i32_42 k0_t3
  let v74 : BitVec 32 := Scalar.subi c12_i32_45 arg13
  let c16_i32_59 : BitVec 32 := 16#32
  let v133 : BitVec 32 := Scalar.muli v74 c16_i32_59
  let v345 : BitVec 32 := Scalar.addi c1568_i32 v133
  let v348 : Index := Scalar.indexCast v345
  ![v346.toNat, v347.toNat, v348.toNat]

def k0_chk42 (v351 : IVec S16 32) : Prop :=
  (∀ a x, ((![v351] : Fin 1 → IVec S16 32) a x).toNat < S49152.size a)
theorem k0_idx42_inb : ∀ (v351 : IVec S16 32) (k0_hw42 : k0_chk42 v351), ∀ a x, ((![v351] : Fin 1 → IVec S16 32) a x).toNat < S49152.size a := fun v351 k0_hw42 => k0_hw42

def k0_chk43 (v355 : IVec S16 32) : Prop :=
  (∀ a x, ((![v355] : Fin 1 → IVec S16 32) a x).toNat < S49152.size a)
theorem k0_idx43_inb : ∀ (v355 : IVec S16 32) (k0_hw43 : k0_chk43 v355), ∀ a x, ((![v355] : Fin 1 → IVec S16 32) a x).toNat < S49152.size a := fun v355 k0_hw43 => k0_hw43

def k0_chk44 (v360 : IVec S16 32) : Prop :=
  (∀ a x, ((![v360] : Fin 1 → IVec S16 32) a x).toNat < S49152.size a)
theorem k0_idx44_inb : ∀ (v360 : IVec S16 32) (k0_hw44 : k0_chk44 v360), ∀ a x, ((![v360] : Fin 1 → IVec S16 32) a x).toNat < S49152.size a := fun v360 k0_hw44 => k0_hw44

def k0_chk45 (v365 : IVec S16 32) : Prop :=
  (∀ a x, ((![v365] : Fin 1 → IVec S16 32) a x).toNat < S49152.size a)
theorem k0_idx45_inb : ∀ (v365 : IVec S16 32) (k0_hw45 : k0_chk45 v365), ∀ a x, ((![v365] : Fin 1 → IVec S16 32) a x).toNat < S49152.size a := fun v365 k0_hw45 => k0_hw45
def k0_off13 (k0_t1 : Fin k0_t1_loop.trips) (k0_t2 : Fin k0_t2_loop.trips) (k0_t3 : Fin k0_t3_loop.trips) : Fin 3 → Nat :=
  let c0_i32_0 : BitVec 32 := 0#32
  let c1_i32 : BitVec 32 := 1#32
  let arg9 : BitVec 32 := Scf.iv c0_i32_0 c1_i32 k0_t1
  let c2_i32 : BitVec 32 := 2#32
  let c0_i32_19 : BitVec 32 := 0#32
  let v24 : BitVec 1 := Scalar.cmpi .eq c2_i32 c0_i32_19
  let c1_i32_20 : BitVec 32 := 1#32
  let v25 : BitVec 32 := Scalar.select v24 c1_i32_20 c2_i32
  let v26 : BitVec 32 := Scalar.remsi arg9 v25
  let c0_i32_22 : BitVec 32 := 0#32
  let v28 : BitVec 1 := Scalar.cmpi .slt v26 c0_i32_22
  let c0_i32_23 : BitVec 32 := 0#32
  let v29 : BitVec 1 := Scalar.cmpi .slt v25 c0_i32_23
  let v30 : BitVec 1 := Scalar.xori v28 v29
  let c0_i32_21 : BitVec 32 := 0#32
  let v27 : BitVec 1 := Scalar.cmpi .ne v26 c0_i32_21
  let v31 : BitVec 1 := Scalar.andi v30 v27
  let v32 : BitVec 32 := Scalar.addi v26 v25
  let v33 : BitVec 32 := Scalar.select v31 v32 v26
  let v370 : Index := Scalar.indexCast v33
  let c0_i32_27 : BitVec 32 := 0#32
  let c1_i32_28 : BitVec 32 := 1#32
  let arg11 : BitVec 32 := Scf.iv c0_i32_27 c1_i32_28 k0_t2
  let v371 : Index := Scalar.indexCast arg11
  let c1764_i32 : BitVec 32 := 1764#32
  let c12_i32_45 : BitVec 32 := 12#32
  let c0_i32_41 : BitVec 32 := 0#32
  let c1_i32_42 : BitVec 32 := 1#32
  let arg13 : BitVec 32 := Scf.iv c0_i32_41 c1_i32_42 k0_t3
  let v74 : BitVec 32 := Scalar.subi c12_i32_45 arg13
  let c16_i32_59 : BitVec 32 := 16#32
  let v133 : BitVec 32 := Scalar.muli v74 c16_i32_59
  let v369 : BitVec 32 := Scalar.addi c1764_i32 v133
  let v372 : Index := Scalar.indexCast v369
  ![v370.toNat, v371.toNat, v372.toNat]

def k0_chk46 (v375 : IVec S16 32) : Prop :=
  (∀ a x, ((![v375] : Fin 1 → IVec S16 32) a x).toNat < S49152.size a)
theorem k0_idx46_inb : ∀ (v375 : IVec S16 32) (k0_hw46 : k0_chk46 v375), ∀ a x, ((![v375] : Fin 1 → IVec S16 32) a x).toNat < S49152.size a := fun v375 k0_hw46 => k0_hw46

def k0_chk47 (v379 : IVec S16 32) : Prop :=
  (∀ a x, ((![v379] : Fin 1 → IVec S16 32) a x).toNat < S49152.size a)
theorem k0_idx47_inb : ∀ (v379 : IVec S16 32) (k0_hw47 : k0_chk47 v379), ∀ a x, ((![v379] : Fin 1 → IVec S16 32) a x).toNat < S49152.size a := fun v379 k0_hw47 => k0_hw47

def k0_chk48 (v384 : IVec S16 32) : Prop :=
  (∀ a x, ((![v384] : Fin 1 → IVec S16 32) a x).toNat < S49152.size a)
theorem k0_idx48_inb : ∀ (v384 : IVec S16 32) (k0_hw48 : k0_chk48 v384), ∀ a x, ((![v384] : Fin 1 → IVec S16 32) a x).toNat < S49152.size a := fun v384 k0_hw48 => k0_hw48

def k0_chk49 (v389 : IVec S16 32) : Prop :=
  (∀ a x, ((![v389] : Fin 1 → IVec S16 32) a x).toNat < S49152.size a)
theorem k0_idx49_inb : ∀ (v389 : IVec S16 32) (k0_hw49 : k0_chk49 v389), ∀ a x, ((![v389] : Fin 1 → IVec S16 32) a x).toNat < S49152.size a := fun v389 k0_hw49 => k0_hw49
def k0_off14 (k0_t1 : Fin k0_t1_loop.trips) (k0_t2 : Fin k0_t2_loop.trips) (k0_t3 : Fin k0_t3_loop.trips) : Fin 3 → Nat :=
  let c0_i32_0 : BitVec 32 := 0#32
  let c1_i32 : BitVec 32 := 1#32
  let arg9 : BitVec 32 := Scf.iv c0_i32_0 c1_i32 k0_t1
  let c2_i32 : BitVec 32 := 2#32
  let c0_i32_19 : BitVec 32 := 0#32
  let v24 : BitVec 1 := Scalar.cmpi .eq c2_i32 c0_i32_19
  let c1_i32_20 : BitVec 32 := 1#32
  let v25 : BitVec 32 := Scalar.select v24 c1_i32_20 c2_i32
  let v26 : BitVec 32 := Scalar.remsi arg9 v25
  let c0_i32_22 : BitVec 32 := 0#32
  let v28 : BitVec 1 := Scalar.cmpi .slt v26 c0_i32_22
  let c0_i32_23 : BitVec 32 := 0#32
  let v29 : BitVec 1 := Scalar.cmpi .slt v25 c0_i32_23
  let v30 : BitVec 1 := Scalar.xori v28 v29
  let c0_i32_21 : BitVec 32 := 0#32
  let v27 : BitVec 1 := Scalar.cmpi .ne v26 c0_i32_21
  let v31 : BitVec 1 := Scalar.andi v30 v27
  let v32 : BitVec 32 := Scalar.addi v26 v25
  let v33 : BitVec 32 := Scalar.select v31 v32 v26
  let v394 : Index := Scalar.indexCast v33
  let c0_i32_27 : BitVec 32 := 0#32
  let c1_i32_28 : BitVec 32 := 1#32
  let arg11 : BitVec 32 := Scf.iv c0_i32_27 c1_i32_28 k0_t2
  let v395 : Index := Scalar.indexCast arg11
  let c1960_i32 : BitVec 32 := 1960#32
  let c12_i32_45 : BitVec 32 := 12#32
  let c0_i32_41 : BitVec 32 := 0#32
  let c1_i32_42 : BitVec 32 := 1#32
  let arg13 : BitVec 32 := Scf.iv c0_i32_41 c1_i32_42 k0_t3
  let v74 : BitVec 32 := Scalar.subi c12_i32_45 arg13
  let c16_i32_59 : BitVec 32 := 16#32
  let v133 : BitVec 32 := Scalar.muli v74 c16_i32_59
  let v393 : BitVec 32 := Scalar.addi c1960_i32 v133
  let v396 : Index := Scalar.indexCast v393
  ![v394.toNat, v395.toNat, v396.toNat]

def k0_chk50 (v399 : IVec S16 32) : Prop :=
  (∀ a x, ((![v399] : Fin 1 → IVec S16 32) a x).toNat < S49152.size a)
theorem k0_idx50_inb : ∀ (v399 : IVec S16 32) (k0_hw50 : k0_chk50 v399), ∀ a x, ((![v399] : Fin 1 → IVec S16 32) a x).toNat < S49152.size a := fun v399 k0_hw50 => k0_hw50

def k0_chk51 (v403 : IVec S16 32) : Prop :=
  (∀ a x, ((![v403] : Fin 1 → IVec S16 32) a x).toNat < S49152.size a)
theorem k0_idx51_inb : ∀ (v403 : IVec S16 32) (k0_hw51 : k0_chk51 v403), ∀ a x, ((![v403] : Fin 1 → IVec S16 32) a x).toNat < S49152.size a := fun v403 k0_hw51 => k0_hw51

def k0_chk52 (v408 : IVec S16 32) : Prop :=
  (∀ a x, ((![v408] : Fin 1 → IVec S16 32) a x).toNat < S49152.size a)
theorem k0_idx52_inb : ∀ (v408 : IVec S16 32) (k0_hw52 : k0_chk52 v408), ∀ a x, ((![v408] : Fin 1 → IVec S16 32) a x).toNat < S49152.size a := fun v408 k0_hw52 => k0_hw52

def k0_chk53 (v413 : IVec S16 32) : Prop :=
  (∀ a x, ((![v413] : Fin 1 → IVec S16 32) a x).toNat < S49152.size a)
theorem k0_idx53_inb : ∀ (v413 : IVec S16 32) (k0_hw53 : k0_chk53 v413), ∀ a x, ((![v413] : Fin 1 → IVec S16 32) a x).toNat < S49152.size a := fun v413 k0_hw53 => k0_hw53
def k0_off15 (k0_t1 : Fin k0_t1_loop.trips) (k0_t2 : Fin k0_t2_loop.trips) (k0_t3 : Fin k0_t3_loop.trips) : Fin 3 → Nat :=
  let c0_i32_0 : BitVec 32 := 0#32
  let c1_i32 : BitVec 32 := 1#32
  let arg9 : BitVec 32 := Scf.iv c0_i32_0 c1_i32 k0_t1
  let c2_i32 : BitVec 32 := 2#32
  let c0_i32_19 : BitVec 32 := 0#32
  let v24 : BitVec 1 := Scalar.cmpi .eq c2_i32 c0_i32_19
  let c1_i32_20 : BitVec 32 := 1#32
  let v25 : BitVec 32 := Scalar.select v24 c1_i32_20 c2_i32
  let v26 : BitVec 32 := Scalar.remsi arg9 v25
  let c0_i32_22 : BitVec 32 := 0#32
  let v28 : BitVec 1 := Scalar.cmpi .slt v26 c0_i32_22
  let c0_i32_23 : BitVec 32 := 0#32
  let v29 : BitVec 1 := Scalar.cmpi .slt v25 c0_i32_23
  let v30 : BitVec 1 := Scalar.xori v28 v29
  let c0_i32_21 : BitVec 32 := 0#32
  let v27 : BitVec 1 := Scalar.cmpi .ne v26 c0_i32_21
  let v31 : BitVec 1 := Scalar.andi v30 v27
  let v32 : BitVec 32 := Scalar.addi v26 v25
  let v33 : BitVec 32 := Scalar.select v31 v32 v26
  let v418 : Index := Scalar.indexCast v33
  let c0_i32_27 : BitVec 32 := 0#32
  let c1_i32_28 : BitVec 32 := 1#32
  let arg11 : BitVec 32 := Scf.iv c0_i32_27 c1_i32_28 k0_t2
  let v419 : Index := Scalar.indexCast arg11
  let c2156_i32 : BitVec 32 := 2156#32
  let c12_i32_45 : BitVec 32 := 12#32
  let c0_i32_41 : BitVec 32 := 0#32
  let c1_i32_42 : BitVec 32 := 1#32
  let arg13 : BitVec 32 := Scf.iv c0_i32_41 c1_i32_42 k0_t3
  let v74 : BitVec 32 := Scalar.subi c12_i32_45 arg13
  let c16_i32_59 : BitVec 32 := 16#32
  let v133 : BitVec 32 := Scalar.muli v74 c16_i32_59
  let v417 : BitVec 32 := Scalar.addi c2156_i32 v133
  let v420 : Index := Scalar.indexCast v417
  ![v418.toNat, v419.toNat, v420.toNat]
def k0_off16 (k0_t1 : Fin k0_t1_loop.trips) : Fin 3 → Nat :=
  let c0_i32_0 : BitVec 32 := 0#32
  let c1_i32 : BitVec 32 := 1#32
  let arg9 : BitVec 32 := Scf.iv c0_i32_0 c1_i32 k0_t1
  let c2_i32 : BitVec 32 := 2#32
  let c0_i32_19 : BitVec 32 := 0#32
  let v24 : BitVec 1 := Scalar.cmpi .eq c2_i32 c0_i32_19
  let c1_i32_20 : BitVec 32 := 1#32
  let v25 : BitVec 32 := Scalar.select v24 c1_i32_20 c2_i32
  let v26 : BitVec 32 := Scalar.remsi arg9 v25
  let c0_i32_22 : BitVec 32 := 0#32
  let v28 : BitVec 1 := Scalar.cmpi .slt v26 c0_i32_22
  let c0_i32_23 : BitVec 32 := 0#32
  let v29 : BitVec 1 := Scalar.cmpi .slt v25 c0_i32_23
  let v30 : BitVec 1 := Scalar.xori v28 v29
  let c0_i32_21 : BitVec 32 := 0#32
  let v27 : BitVec 1 := Scalar.cmpi .ne v26 c0_i32_21
  let v31 : BitVec 1 := Scalar.andi v30 v27
  let v32 : BitVec 32 := Scalar.addi v26 v25
  let v33 : BitVec 32 := Scalar.select v31 v32 v26
  let c0_i32_32 : BitVec 32 := 0#32
  let c0_i32_33 : BitVec 32 := 0#32
  ![v33.toNat, 0, 0]
def k0_off17 (i : grid0.Coords) (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c8_i32_30 : BitVec 32 := 8#32
  let v39 : BitVec 32 := Scalar.muli arg9 c8_i32_30
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c12_i32 : BitVec 32 := 12#32
  let v2 : BitVec 32 := Scalar.muli v1 c12_i32
  let c196_i32_31 : BitVec 32 := 196#32
  let v40 : BitVec 32 := Scalar.muli v2 c196_i32_31
  ![v39.toNat, v40.toNat]
def k0_off18 (k0_t1 : Fin k0_t1_loop.trips) : Fin 1 → Nat :=
  let c0_i32_0 : BitVec 32 := 0#32
  let c1_i32 : BitVec 32 := 1#32
  let arg9 : BitVec 32 := Scf.iv c0_i32_0 c1_i32 k0_t1
  let c2_i32 : BitVec 32 := 2#32
  let c0_i32_19 : BitVec 32 := 0#32
  let v24 : BitVec 1 := Scalar.cmpi .eq c2_i32 c0_i32_19
  let c1_i32_20 : BitVec 32 := 1#32
  let v25 : BitVec 32 := Scalar.select v24 c1_i32_20 c2_i32
  let v26 : BitVec 32 := Scalar.remsi arg9 v25
  let c0_i32_22 : BitVec 32 := 0#32
  let v28 : BitVec 1 := Scalar.cmpi .slt v26 c0_i32_22
  let c0_i32_23 : BitVec 32 := 0#32
  let v29 : BitVec 1 := Scalar.cmpi .slt v25 c0_i32_23
  let v30 : BitVec 1 := Scalar.xori v28 v29
  let c0_i32_21 : BitVec 32 := 0#32
  let v27 : BitVec 1 := Scalar.cmpi .ne v26 c0_i32_21
  let v31 : BitVec 1 := Scalar.andi v30 v27
  let v32 : BitVec 32 := Scalar.addi v26 v25
  let v33 : BitVec 32 := Scalar.select v31 v32 v26
  ![v33.toNat]
def k0_off19 (i : grid0.Coords) : Fin 2 → Nat :=
  let c0_i32_6 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c12_i32 : BitVec 32 := 12#32
  let v2 : BitVec 32 := Scalar.muli v1 c12_i32
  let c196_i32 : BitVec 32 := 196#32
  let v6 : BitVec 32 := Scalar.muli v2 c196_i32
  ![0, v6.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "thirteenth" => some ((13⁻¹ : ℝ) : EReal)
  | _ => none
-- ==== ReferenceIdeal.lean ====
abbrev S4x384x32x32 : Shape := ⟨4, ![4, 384, 32, 32]⟩
abbrev S512x6 : Shape := ⟨2, ![512, 6]⟩
abbrev S_ : Shape := ⟨0, ![]⟩
abbrev S512x1 : Shape := ⟨2, ![512, 1]⟩
abbrev S512 : Shape := ⟨1, ![512]⟩
abbrev S512x4 : Shape := ⟨2, ![512, 4]⟩
abbrev S14 : Shape := ⟨1, ![14]⟩
abbrev S1x14 : Shape := ⟨2, ![1, 14]⟩
abbrev S512x14 : Shape := ⟨2, ![512, 14]⟩
abbrev S512x1x1 : Shape := ⟨3, ![512, 1, 1]⟩
abbrev S512x14x1 : Shape := ⟨3, ![512, 14, 1]⟩
abbrev S512x1x14 : Shape := ⟨3, ![512, 1, 14]⟩
abbrev S512x14x14 : Shape := ⟨3, ![512, 14, 14]⟩
abbrev S512x14x14x1 : Shape := ⟨4, ![512, 14, 14, 1]⟩
abbrev S512x14x14x3 : Shape := ⟨4, ![512, 14, 14, 3]⟩
abbrev S512x14x14x384 : Shape := ⟨4, ![512, 14, 14, 384]⟩
abbrev S512x14x1x1 : Shape := ⟨4, ![512, 14, 1, 1]⟩
abbrev S512x1x14x1 : Shape := ⟨4, ![512, 1, 14, 1]⟩
abbrev S512x384x14x14 : Shape := ⟨4, ![512, 384, 14, 14]⟩

abbrev nBuf : Space → Nat
  | .hbm => 245
  | .vmem => 0
  | .smem => 0
  | _ => 0

abbrev hbmTy0_0 (i : Nat) : BufTy := match i % 128 with
  | 0 => ⟨S4x384x32x32, .f32⟩
  | 1 => ⟨S512x6, .f32⟩
  | 2 => ⟨S_, .i32⟩
  | 3 => ⟨S512x1, .f32⟩
  | 4 => ⟨S512, .f32⟩
  | 5 => ⟨S512, .i32⟩
  | 6 => ⟨S512x4, .f32⟩
  | 7 => ⟨S_, .f32⟩
  | 8 => ⟨S_, .f32⟩
  | 9 => ⟨S_, .f32⟩
  | 10 => ⟨S512x4, .f32⟩
  | 11 => ⟨S512x4, .f32⟩
  | 12 => ⟨S512x1, .f32⟩
  | 13 => ⟨S512, .f32⟩
  | 14 => ⟨S512x1, .f32⟩
  | 15 => ⟨S512, .f32⟩
  | 16 => ⟨S512x1, .f32⟩
  | 17 => ⟨S512, .f32⟩
  | 18 => ⟨S512x1, .f32⟩
  | 19 => ⟨S512, .f32⟩
  | 20 => ⟨S14, .f32⟩
  | 21 => ⟨S_, .f32⟩
  | 22 => ⟨S14, .f32⟩
  | 23 => ⟨S14, .f32⟩
  | 24 => ⟨S14, .f32⟩
  | 25 => ⟨S_, .f32⟩
  | 26 => ⟨S14, .f32⟩
  | 27 => ⟨S14, .f32⟩
  | 28 => ⟨S512x1, .f32⟩
  | 29 => ⟨S512, .f32⟩
  | 30 => ⟨S512x1, .f32⟩
  | 31 => ⟨S1x14, .f32⟩
  | 32 => ⟨S512x14, .f32⟩
  | 33 => ⟨S512x14, .f32⟩
  | 34 => ⟨S512x14, .f32⟩
  | 35 => ⟨S512x14, .f32⟩
  | 36 => ⟨S512x14, .f32⟩
  | 37 => ⟨S512x1, .f32⟩
  | 38 => ⟨S512, .f32⟩
  | 39 => ⟨S512x1, .f32⟩
  | 40 => ⟨S1x14, .f32⟩
  | 41 => ⟨S512x14, .f32⟩
  | 42 => ⟨S512x14, .f32⟩
  | 43 => ⟨S512x14, .f32⟩
  | 44 => ⟨S512x14, .f32⟩
  | 45 => ⟨S512x14, .f32⟩
  | 46 => ⟨S512x14, .f32⟩
  | 47 => ⟨S512x14, .f32⟩
  | 48 => ⟨S512x14, .f32⟩
  | 49 => ⟨S512x14, .f32⟩
  | 50 => ⟨S512x14, .i32⟩
  | 51 => ⟨S_, .i32⟩
  | 52 => ⟨S_, .i32⟩
  | 53 => ⟨S_, .i32⟩
  | 54 => ⟨S512x14, .i32⟩
  | 55 => ⟨S512x14, .i32⟩
  | 56 => ⟨S_, .i32⟩
  | 57 => ⟨S512x14, .i32⟩
  | 58 => ⟨S512x14, .i32⟩
  | 59 => ⟨S_, .i32⟩
  | 60 => ⟨S512x14, .i32⟩
  | 61 => ⟨S512x14, .i32⟩
  | 62 => ⟨S_, .i32⟩
  | 63 => ⟨S_, .i32⟩
  | 64 => ⟨S_, .i32⟩
  | 65 => ⟨S512x14, .i32⟩
  | 66 => ⟨S512x14, .i32⟩
  | 67 => ⟨S_, .i32⟩
  | 68 => ⟨S512x14, .i32⟩
  | 69 => ⟨S512x14, .i32⟩
  | 70 => ⟨S512x14, .i32⟩
  | 71 => ⟨S_, .i32⟩
  | 72 => ⟨S_, .i32⟩
  | 73 => ⟨S_, .i32⟩
  | 74 => ⟨S512x14, .i32⟩
  | 75 => ⟨S512x14, .i32⟩
  | 76 => ⟨S_, .i32⟩
  | 77 => ⟨S512x14, .i32⟩
  | 78 => ⟨S512x14, .i32⟩
  | 79 => ⟨S_, .i32⟩
  | 80 => ⟨S512x14, .i32⟩
  | 81 => ⟨S512x14, .i32⟩
  | 82 => ⟨S_, .i32⟩
  | 83 => ⟨S_, .i32⟩
  | 84 => ⟨S_, .i32⟩
  | 85 => ⟨S512x14, .i32⟩
  | 86 => ⟨S512x14, .i32⟩
  | 87 => ⟨S_, .i32⟩
  | 88 => ⟨S512x14, .i32⟩
  | 89 => ⟨S512x14, .i32⟩
  | 90 => ⟨S512x1x1, .i32⟩
  | 91 => ⟨S512x14x1, .i32⟩
  | 92 => ⟨S512x14x1, .i32⟩
  | 93 => ⟨S512x1x14, .i32⟩
  | 94 => ⟨S512x1x14, .i32⟩
  | 95 => ⟨S_, .i32⟩
  | 96 => ⟨S512x1x1, .i32⟩
  | 97 => ⟨S512x1x1, .i1⟩
  | 98 => ⟨S_, .i32⟩
  | 99 => ⟨S512x1x1, .i32⟩
  | 100 => ⟨S512x1x1, .i32⟩
  | 101 => ⟨S512x1x1, .i32⟩
  | 102 => ⟨S_, .i32⟩
  | 103 => ⟨S512x14x1, .i32⟩
  | 104 => ⟨S512x14x1, .i1⟩
  | 105 => ⟨S_, .i32⟩
  | 106 => ⟨S512x14x1, .i32⟩
  | 107 => ⟨S512x14x1, .i32⟩
  | 108 => ⟨S512x14x1, .i32⟩
  | 109 => ⟨S_, .i32⟩
  | 110 => ⟨S512x1x14, .i32⟩
  | 111 => ⟨S512x1x14, .i1⟩
  | 112 => ⟨S_, .i32⟩
  | 113 => ⟨S512x1x14, .i32⟩
  | 114 => ⟨S512x1x14, .i32⟩
  | 115 => ⟨S512x1x14, .i32⟩
  | 116 => ⟨S512x14x14, .i32⟩
  | 117 => ⟨S512x14x14, .i32⟩
  | 118 => ⟨S512x14x14, .i32⟩
  | 119 => ⟨S512x14x14x1, .i32⟩
  | 120 => ⟨S512x14x14x1, .i32⟩
  | 121 => ⟨S512x14x14x1, .i32⟩
  | 122 => ⟨S512x14x14x3, .i32⟩
  | 123 => ⟨S512x14x14x384, .f32⟩
  | 124 => ⟨S_, .i32⟩
  | 125 => ⟨S512x1x1, .i32⟩
  | 126 => ⟨S512x1x1, .i1⟩
  | 127 => ⟨S_, .i32⟩
  | _ => ⟨S4x384x32x32, .f32⟩

abbrev hbmTy0_1 (i : Nat) : BufTy := match i % 128 with
  | 0 => ⟨S512x1x1, .i32⟩
  | 1 => ⟨S512x1x1, .i32⟩
  | 2 => ⟨S512x1x1, .i32⟩
  | 3 => ⟨S_, .i32⟩
  | 4 => ⟨S512x14x1, .i32⟩
  | 5 => ⟨S512x14x1, .i1⟩
  | 6 => ⟨S_, .i32⟩
  | 7 => ⟨S512x14x1, .i32⟩
  | 8 => ⟨S512x14x1, .i32⟩
  | 9 => ⟨S512x14x1, .i32⟩
  | 10 => ⟨S_, .i32⟩
  | 11 => ⟨S512x1x14, .i32⟩
  | 12 => ⟨S512x1x14, .i1⟩
  | 13 => ⟨S_, .i32⟩
  | 14 => ⟨S512x1x14, .i32⟩
  | 15 => ⟨S512x1x14, .i32⟩
  | 16 => ⟨S512x1x14, .i32⟩
  | 17 => ⟨S512x14x14, .i32⟩
  | 18 => ⟨S512x14x14, .i32⟩
  | 19 => ⟨S512x14x14, .i32⟩
  | 20 => ⟨S512x14x14x1, .i32⟩
  | 21 => ⟨S512x14x14x1, .i32⟩
  | 22 => ⟨S512x14x14x1, .i32⟩
  | 23 => ⟨S512x14x14x3, .i32⟩
  | 24 => ⟨S512x14x14x384, .f32⟩
  | 25 => ⟨S_, .i32⟩
  | 26 => ⟨S512x1x1, .i32⟩
  | 27 => ⟨S512x1x1, .i1⟩
  | 28 => ⟨S_, .i32⟩
  | 29 => ⟨S512x1x1, .i32⟩
  | 30 => ⟨S512x1x1, .i32⟩
  | 31 => ⟨S512x1x1, .i32⟩
  | 32 => ⟨S_, .i32⟩
  | 33 => ⟨S512x14x1, .i32⟩
  | 34 => ⟨S512x14x1, .i1⟩
  | 35 => ⟨S_, .i32⟩
  | 36 => ⟨S512x14x1, .i32⟩
  | 37 => ⟨S512x14x1, .i32⟩
  | 38 => ⟨S512x14x1, .i32⟩
  | 39 => ⟨S_, .i32⟩
  | 40 => ⟨S512x1x14, .i32⟩
  | 41 => ⟨S512x1x14, .i1⟩
  | 42 => ⟨S_, .i32⟩
  | 43 => ⟨S512x1x14, .i32⟩
  | 44 => ⟨S512x1x14, .i32⟩
  | 45 => ⟨S512x1x14, .i32⟩
  | 46 => ⟨S512x14x14, .i32⟩
  | 47 => ⟨S512x14x14, .i32⟩
  | 48 => ⟨S512x14x14, .i32⟩
  | 49 => ⟨S512x14x14x1, .i32⟩
  | 50 => ⟨S512x14x14x1, .i32⟩
  | 51 => ⟨S512x14x14x1, .i32⟩
  | 52 => ⟨S512x14x14x3, .i32⟩
  | 53 => ⟨S512x14x14x384, .f32⟩
  | 54 => ⟨S_, .i32⟩
  | 55 => ⟨S512x1x1, .i32⟩
  | 56 => ⟨S512x1x1, .i1⟩
  | 57 => ⟨S_, .i32⟩
  | 58 => ⟨S512x1x1, .i32⟩
  | 59 => ⟨S512x1x1, .i32⟩
  | 60 => ⟨S512x1x1, .i32⟩
  | 61 => ⟨S_, .i32⟩
  | 62 => ⟨S512x14x1, .i32⟩
  | 63 => ⟨S512x14x1, .i1⟩
  | 64 => ⟨S_, .i32⟩
  | 65 => ⟨S512x14x1, .i32⟩
  | 66 => ⟨S512x14x1, .i32⟩
  | 67 => ⟨S512x14x1, .i32⟩
  | 68 => ⟨S_, .i32⟩
  | 69 => ⟨S512x1x14, .i32⟩
  | 70 => ⟨S512x1x14, .i1⟩
  | 71 => ⟨S_, .i32⟩
  | 72 => ⟨S512x1x14, .i32⟩
  | 73 => ⟨S512x1x14, .i32⟩
  | 74 => ⟨S512x1x14, .i32⟩
  | 75 => ⟨S512x14x14, .i32⟩
  | 76 => ⟨S512x14x14, .i32⟩
  | 77 => ⟨S512x14x14, .i32⟩
  | 78 => ⟨S512x14x14x1, .i32⟩
  | 79 => ⟨S512x14x14x1, .i32⟩
  | 80 => ⟨S512x14x14x1, .i32⟩
  | 81 => ⟨S512x14x14x3, .i32⟩
  | 82 => ⟨S512x14x14x384, .f32⟩
  | 83 => ⟨S512x14x1x1, .f32⟩
  | 84 => ⟨S512x1x14x1, .f32⟩
  | 85 => ⟨S_, .f32⟩
  | 86 => ⟨S512x14x1x1, .f32⟩
  | 87 => ⟨S512x14x1x1, .f32⟩
  | 88 => ⟨S512x14x14x384, .f32⟩
  | 89 => ⟨S512x14x14x384, .f32⟩
  | 90 => ⟨S_, .f32⟩
  | 91 => ⟨S512x1x14x1, .f32⟩
  | 92 => ⟨S512x1x14x1, .f32⟩
  | 93 => ⟨S512x14x14x384, .f32⟩
  | 94 => ⟨S512x14x14x384, .f32⟩
  | 95 => ⟨S_, .f32⟩
  | 96 => ⟨S512x14x1x1, .f32⟩
  | 97 => ⟨S512x14x1x1, .f32⟩
  | 98 => ⟨S512x14x14x384, .f32⟩
  | 99 => ⟨S512x14x14x384, .f32⟩
  | 100 => ⟨S512x14x14x384, .f32⟩
  | 101 => ⟨S512x14x14x384, .f32⟩
  | 102 => ⟨S512x14x14x384, .f32⟩
  | 103 => ⟨S512x14x14x384, .f32⟩
  | 104 => ⟨S512x14x14x384, .f32⟩
  | 105 => ⟨S_, .f32⟩
  | 106 => ⟨S512x1x14x1, .f32⟩
  | 107 => ⟨S512x1x14x1, .f32⟩
  | 108 => ⟨S512x14x14x384, .f32⟩
  | 109 => ⟨S512x14x14x384, .f32⟩
  | 110 => ⟨S512x14x14x384, .f32⟩
  | 111 => ⟨S512x14x14x384, .f32⟩
  | 112 => ⟨S512x14x14x384, .f32⟩
  | 113 => ⟨S512x14x14x384, .f32⟩
  | 114 => ⟨S512x14x14x384, .f32⟩
  | 115 => ⟨S512x14x14x384, .f32⟩
  | 116 => ⟨S512x384x14x14, .f32⟩
  | _ => ⟨S4x384x32x32, .f32⟩

abbrev hbmTy (i : Nat) : BufTy := match i / 128 with
  | 0 => hbmTy0_0 i
  | 1 => hbmTy0_1 i
  | _ => ⟨S4x384x32x32, .f32⟩

abbrev bufTy : (tb : Table) → Fin (tcTables nBuf tb) → BufTy
  | .hbm, ⟨i, _⟩ => hbmTy i
  | _, _ => ⟨S4x384x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_c : Ref sig .tc := ⟨.hbm, 51, rfl⟩
abbrev main_c_2 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_v45 : Ref sig .tc := ⟨.hbm, 58, rfl⟩
abbrev main_c_3 : Ref sig .tc := ⟨.hbm, 59, rfl⟩
abbrev main_v46 : Ref sig .tc := ⟨.hbm, 60, rfl⟩
abbrev main_v47 : Ref sig .tc := ⟨.hbm, 61, rfl⟩
abbrev main_c_4 : Ref sig .tc := ⟨.hbm, 62, rfl⟩
abbrev main_c_5 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_v48 : Ref sig .tc := ⟨.hbm, 69, rfl⟩
abbrev main_v49 : Ref sig .tc := ⟨.hbm, 70, rfl⟩
abbrev main_c_6 : Ref sig .tc := ⟨.hbm, 71, rfl⟩
abbrev main_c_7 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_v50 : Ref sig .tc := ⟨.hbm, 78, rfl⟩
abbrev main_c_8 : Ref sig .tc := ⟨.hbm, 79, rfl⟩
abbrev main_v51 : Ref sig .tc := ⟨.hbm, 80, rfl⟩
abbrev main_v52 : Ref sig .tc := ⟨.hbm, 81, rfl⟩
abbrev main_c_9 : Ref sig .tc := ⟨.hbm, 82, rfl⟩
abbrev main_c_10 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_c_11 : Ref sig .tc := ⟨.hbm, 95, rfl⟩
abbrev main_v59 : Ref sig .tc := ⟨.hbm, 96, rfl⟩
abbrev main_v60 : Ref sig .tc := ⟨.hbm, 97, rfl⟩
abbrev main_c_12 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_c_13 : Ref sig .tc := ⟨.hbm, 102, rfl⟩
abbrev main_v64 : Ref sig .tc := ⟨.hbm, 103, rfl⟩
abbrev main_v65 : Ref sig .tc := ⟨.hbm, 104, rfl⟩
abbrev main_c_14 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_c_15 : Ref sig .tc := ⟨.hbm, 109, rfl⟩
abbrev main_v69 : Ref sig .tc := ⟨.hbm, 110, rfl⟩
abbrev main_v70 : Ref sig .tc := ⟨.hbm, 111, rfl⟩
abbrev main_c_16 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_c_17 : Ref sig .tc := ⟨.hbm, 124, rfl⟩
abbrev main_v82 : Ref sig .tc := ⟨.hbm, 125, rfl⟩
abbrev main_v83 : Ref sig .tc := ⟨.hbm, 126, rfl⟩
abbrev main_c_18 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_c_19 : Ref sig .tc := ⟨.hbm, 131, rfl⟩
abbrev main_v87 : Ref sig .tc := ⟨.hbm, 132, rfl⟩
abbrev main_v88 : Ref sig .tc := ⟨.hbm, 133, rfl⟩
abbrev main_c_20 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_c_21 : Ref sig .tc := ⟨.hbm, 138, rfl⟩
abbrev main_v92 : Ref sig .tc := ⟨.hbm, 139, rfl⟩
abbrev main_v93 : Ref sig .tc := ⟨.hbm, 140, rfl⟩
abbrev main_c_22 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_c_23 : Ref sig .tc := ⟨.hbm, 153, rfl⟩
abbrev main_v105 : Ref sig .tc := ⟨.hbm, 154, rfl⟩
abbrev main_v106 : Ref sig .tc := ⟨.hbm, 155, rfl⟩
abbrev main_c_24 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_c_25 : Ref sig .tc := ⟨.hbm, 160, rfl⟩
abbrev main_v110 : Ref sig .tc := ⟨.hbm, 161, rfl⟩
abbrev main_v111 : Ref sig .tc := ⟨.hbm, 162, rfl⟩
abbrev main_c_26 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_c_27 : Ref sig .tc := ⟨.hbm, 167, rfl⟩
abbrev main_v115 : Ref sig .tc := ⟨.hbm, 168, rfl⟩
abbrev main_v116 : Ref sig .tc := ⟨.hbm, 169, rfl⟩
abbrev main_c_28 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_c_29 : Ref sig .tc := ⟨.hbm, 182, rfl⟩
abbrev main_v128 : Ref sig .tc := ⟨.hbm, 183, rfl⟩
abbrev main_v129 : Ref sig .tc := ⟨.hbm, 184, rfl⟩
abbrev main_c_30 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_c_31 : Ref sig .tc := ⟨.hbm, 189, rfl⟩
abbrev main_v133 : Ref sig .tc := ⟨.hbm, 190, rfl⟩
abbrev main_v134 : Ref sig .tc := ⟨.hbm, 191, rfl⟩
abbrev main_c_32 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_c_33 : Ref sig .tc := ⟨.hbm, 196, rfl⟩
abbrev main_v138 : Ref sig .tc := ⟨.hbm, 197, rfl⟩
abbrev main_v139 : Ref sig .tc := ⟨.hbm, 198, rfl⟩
abbrev main_c_34 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_cst_35 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_cst_36 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_cst_37 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_cst_38 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩

abbrev nD : Nat := 1
abbrev τ : Topo := Topo.v7x

variable {F : FTy → Type} [FloatOps F]
-- ==== Proof.Sample.lean ====
/-
  What one element of the result is, over any reading of floats: the sample of region of interest `m` at position `p` of its
  14 by 14 grid in channel `c` of a tile's twelve, read off the tile's table of features `T` and the table of regions `R`
  (five columns of 512: image, left edge, top edge, width, height, the last two scaled by the constant `k` before use). And
  that under `InRange` — image in 0..3, truncated rows and columns not negative — every word the gathers name is below 49152.
-/
module

public import Idealize.ShloMosaic.PureOps
public import Idealize.ShloMosaic.Lib.StableHlo

@[expose] public section

noncomputable section

namespace Cert.RoiAlign

open Idealize.ShloMosaic

variable {F : FTy → Type} [FloatOps F]

/-- The sample coordinate `i` of a region: its edge, at word `o + m`, plus `i` steps of the extent at word `d + m` scaled by `k`. -/
def coord (k : F .f32) (R : ℕ → F .f32) (o d m i : ℕ) : F .f32 :=
  FloatOps.addf (R (o + m)) (FloatOps.mulf (FloatOps.mulf (R (d + m)) k) (FloatOps.sitofp .f32 (BitVec.ofNat 32 i)))

/-- The row coordinate of grid row `i`. -/
def ys (k : F .f32) (R : ℕ → F .f32) (m i : ℕ) : F .f32 := coord k R 1024 2048 m i

/-- The column coordinate of grid column `j`. -/
def xs (k : F .f32) (R : ℕ → F .f32) (m j : ℕ) : F .f32 := coord k R 512 1536 m j

/-- The lower neighbour of a coordinate on the 32 by 32 map. -/
def cell (y : F .f32) : BitVec 32 := IntOp.minsi (FloatOps.fptosi 32 y) 31#32

/-- The upper neighbour of a lower one, kept on the map. -/
def nextCell (b : BitVec 32) : BitVec 32 := IntOp.minsi (IntOp.addi b 1#32) 31#32

/-- How far a coordinate lies above its lower neighbour. -/
def frac (y : F .f32) : F .f32 := FloatOps.subf y (FloatOps.sitofp .f32 (cell y))

/-- The position at which a region's image begins. -/
def image (R : ℕ → F .f32) (m : ℕ) : BitVec 32 := IntOp.muli (FloatOps.fptosi 32 (R m)) 1024#32

/-- The first of the twelve words of a position: image `b`, row `y`, column `x`. -/
def word (b y x : BitVec 32) : BitVec 32 := IntOp.muli (IntOp.addi (IntOp.addi b (IntOp.muli y 32#32)) x) 12#32

/-- The bilinear blend of four features, as the kernel writes it. -/
def blend (wy wx g00 g01 g10 g11 : F .f32) : F .f32 :=
  let w11 := FloatOps.mulf wy wx
  let w10 := FloatOps.subf wy w11
  let w01 := FloatOps.subf wx w11
  let w00 := FloatOps.subf (FloatOps.subf (Scalar.ofBits .f32 0x3F800000#32) wy) w01
  FloatOps.addf (FloatOps.addf (FloatOps.addf (FloatOps.mulf w00 g00) (FloatOps.mulf w01 g01)) (FloatOps.mulf w10 g10))
    (FloatOps.mulf w11 g11)

/-- One element of the result: region `m`, grid row `i`, grid column `j`, channel `c` of the tile's twelve. -/
def value (k : F .f32) (T R : ℕ → F .f32) (m c i j : ℕ) : F .f32 :=
  let y := ys k R m i
  let x := xs k R m j
  let at' := fun a b => T (IntOp.addi (word (image R m) a b) (BitVec.ofNat 32 c)).toNat
  blend (frac y) (frac x) (at' (cell y) (cell x)) (at' (cell y) (nextCell (cell x)))
    (at' (nextCell (cell y)) (cell x)) (at' (nextCell (cell y)) (nextCell (cell x)))

/-- The regions name images 0..3 and their sample rows (the fifteenth too, which idle lanes name) and columns truncate to no
    negative index. -/
structure InRange (k : F .f32) (R : ℕ → F .f32) : Prop where
  image : ∀ m < 512, 0 ≤ (FloatOps.fptosi 32 (R m) : BitVec 32).toInt ∧ (FloatOps.fptosi 32 (R m) : BitVec 32).toInt < 4
  row : ∀ m < 512, ∀ i < 15, 0 ≤ (FloatOps.fptosi 32 (ys k R m i) : BitVec 32).toInt
  col : ∀ m < 512, ∀ j < 14, 0 ≤ (FloatOps.fptosi 32 (xs k R m j) : BitVec 32).toInt

/-- A word clamped to 31 from a non-negative one is at most 31. -/
theorem minsi_le {x : BitVec 32} (h : 0 ≤ x.toInt) : (IntOp.minsi x 31#32).toNat ≤ 31 := by
  unfold IntOp.minsi
  split
  · rename_i hlt
    rw [BitVec.slt_iff_toInt_lt] at hlt
    have h1 : x.toInt = x.toNat := BitVec.toInt_eq_toNat_of_lt (by
      by_contra hc
      have := BitVec.toInt_neg_iff.mpr (by omega : 2 ^ 32 ≤ 2 * x.toNat)
      omega)
    have h2 : (31#32 : BitVec 32).toInt = 31 := by decide
    omega
  · decide

theorem cell_le {y : F .f32} (h : 0 ≤ (FloatOps.fptosi 32 y : BitVec 32).toInt) : (cell y).toNat ≤ 31 := minsi_le h

theorem nextCell_le {b : BitVec 32} (h : b.toNat ≤ 31) : (nextCell b).toNat ≤ 31 := by
  refine minsi_le ?_
  have : (IntOp.addi b 1#32).toNat = b.toNat + 1 := by
    unfold IntOp.addi; rw [BitVec.toNat_add]; simp only [BitVec.toNat_ofNat]; omega
  rw [BitVec.toInt_eq_toNat_of_lt (by omega)]
  omega

/-- An image's first position, as a number. -/
theorem image_le {R : ℕ → F .f32} {m : ℕ} (h : 0 ≤ (FloatOps.fptosi 32 (R m) : BitVec 32).toInt)
    (h' : (FloatOps.fptosi 32 (R m) : BitVec 32).toInt < 4) : (image R m).toNat ≤ 3072 := by
  unfold image IntOp.muli
  generalize (FloatOps.fptosi 32 (R m) : BitVec 32) = x at *
  have h1 : x.toInt = x.toNat := BitVec.toInt_eq_toNat_of_lt (by
    by_contra hc
    have := BitVec.toInt_neg_iff.mpr (by omega : 2 ^ 32 ≤ 2 * x.toNat)
    omega)
  rw [BitVec.toNat_mul]; simp only [BitVec.toNat_ofNat]; omega

/-- A position's twelve words lie in the table. -/
theorem word_le {b y x : BitVec 32} (hb : b.toNat ≤ 3072) (hy : y.toNat ≤ 31) (hx : x.toNat ≤ 31) :
    (word b y x).toNat ≤ 49140 ∧ (word b y x).toNat = ((b.toNat + y.toNat * 32) + x.toNat) * 12 := by
  have h : (word b y x).toNat = ((b.toNat + y.toNat * 32) + x.toNat) * 12 := by
    unfold word IntOp.muli IntOp.addi
    have h1 : (y * 32#32).toNat = y.toNat * 32 := by
      rw [BitVec.toNat_mul, BitVec.toNat_ofNat, Nat.mod_eq_of_lt (by omega)]
    have h2 : (b + y * 32#32).toNat = b.toNat + y.toNat * 32 := by
      rw [BitVec.toNat_add, h1, Nat.mod_eq_of_lt (by omega)]
    have h3 : (b + y * 32#32 + x).toNat = b.toNat + y.toNat * 32 + x.toNat := by
      rw [BitVec.toNat_add, h2, Nat.mod_eq_of_lt (by omega)]
    rw [BitVec.toNat_mul, h3, BitVec.toNat_ofNat, Nat.mod_eq_of_lt (by omega)]
  omega

/-- The lane arithmetic of the kernel: position `p = 16 (12 - n) + l` by a multiplication and a shift is at grid row `p / 14`,
    grid column `p % 14`. -/
theorem lane_eq : ∀ (n : Fin 13) (l : Fin 16),
    IntOp.shrsi .vector (IntOp.muli (IntOp.addi (Scalar.muli (Scalar.subi 12#32 (BitVec.ofNat 32 n.val)) 16#32) (BitVec.ofNat 32 l.val)) 4682#32) 16#32
      = BitVec.ofNat 32 ((16 * (12 - n.val) + l.val) / 14)
    ∧ IntOp.subi (IntOp.addi (Scalar.muli (Scalar.subi 12#32 (BitVec.ofNat 32 n.val)) 16#32) (BitVec.ofNat 32 l.val))
        (IntOp.muli (BitVec.ofNat 32 ((16 * (12 - n.val) + l.val) / 14)) 14#32)
      = BitVec.ofNat 32 ((16 * (12 - n.val) + l.val) % 14) := by
  decide +kernel

end Cert.RoiAlign

end
-- ==== Proof.Precondition.lean ====
/-
  What the precondition says of one region, over any reading of floats, as statements about words: its image, its four corners
  between 0 and the image's height less one, and the truncated sample rows and columns not negative.
-/
module

public import proofs.«01_k».proof.Defs
public import proofs.«01_k».proof.Proof.Sample
public import proofs.«01_k».proof.Proof.Gen.Pre_boxes_in_image
public import Idealize.ShloMosaic.Lib.PointwiseCore
public import Idealize.ShloMosaic.Lib.Affine

@[expose] public section

noncomputable section

namespace Cert.RoiAlign

open Cert.Pre_boxes_in_image
open Idealize.ShloMosaic

variable {F : FTy → Type} [FloatOps F]

/-- The ratio of the map's height to the image's. -/
def scale (h : IVec S_ 32) : F .f32 := FloatOps.hostDivf (FloatOps.ofBits .f32 0x42000000#32) (FloatOps.sitofp .f32 (h ix0))

/-- The image's height less one. -/
def top (h : IVec S_ 32) : F .f32 := FloatOps.subf (FloatOps.sitofp .f32 (h ix0)) (FloatOps.ofBits .f32 0x3F800000#32)

/-- A sample coordinate, as the precondition writes it, of a region from `a` to `b` at step `i`. -/
def sampled (h : IVec S_ 32) (a b : F .f32) (i : BitVec 32) : F .f32 :=
  FloatOps.addf (FloatOps.mulf a (scale h))
    (FloatOps.mulf (FloatOps.mulf (FloatOps.mulf (FloatOps.subf b a) (scale h)) (FloatOps.ofBits .f32 0x3D9D89D9#32)) (FloatOps.sitofp .f32 i))

/-- A corner in the image, a bit. -/
def inside (h : IVec S_ 32) (acc : BitVec 1) (a : F .f32) : BitVec 1 :=
  IntOp.andi (IntOp.andi acc (FloatOps.cmpf .oge a (FloatOps.ofBits .f32 0x00000000#32))) (FloatOps.cmpf .ole a (top h))

/-- The precondition at region `m` and step `i`. -/
theorem fn_apply (x0 : FVec F S4x384x32x32 .f32) (x : FVec F S512x6 .f32) (h : IVec S_ 32) (m : Fin 512) (i : Fin 15) :
    fn x0 x h (ix2 m i) =
      IntOp.andi (IntOp.andi (inside h (inside h (inside h (inside h (IntOp.andi (IntOp.andi (IntOp.cmpi .sge (h ix0) 1#32)
        (IntOp.cmpi .sge (FloatOps.fptosi 32 (x (ix2 m 0))) 0#32)) (IntOp.cmpi .slt (FloatOps.fptosi 32 (x (ix2 m 0))) 4#32))
        (x (ix2 m 2))) (x (ix2 m 3))) (x (ix2 m 4))) (x (ix2 m 5)))
        (IntOp.cmpi .sge (FloatOps.fptosi 32 (sampled h (x (ix2 m 3)) (x (ix2 m 5)) (BitVec.ofNat 32 i.val))) 0#32))
        (IntOp.cmpi .sge (FloatOps.fptosi 32 (sampled h (x (ix2 m 2)) (x (ix2 m 4)) (IntOp.minsi (BitVec.ofNat 32 i.val) 13#32))) 0#32) := by
  pointwise [fn, fn_part1, fn_part2, fn_part3, fn_part4, inside, sampled, top, scale]

/-- A corner in the image. -/
structure Corner (h : IVec S_ 32) (a : F .f32) : Prop where
  low : FloatOps.cmpf .oge a (FloatOps.ofBits .f32 0x00000000#32) = 1#1
  high : FloatOps.cmpf .ole a (top h) = 1#1

/-- What the precondition says of region `m`. -/
structure Region (x : FVec F S512x6 .f32) (h : IVec S_ 32) (m : Fin 512) : Prop where
  height : 1 ≤ (h ix0).toInt
  image : 0 ≤ (FloatOps.fptosi 32 (x (ix2 m 0)) : BitVec 32).toInt ∧ (FloatOps.fptosi 32 (x (ix2 m 0)) : BitVec 32).toInt < 4
  left : Corner h (x (ix2 m 2))
  upper : Corner h (x (ix2 m 3))
  right : Corner h (x (ix2 m 4))
  lower : Corner h (x (ix2 m 5))
  row : ∀ i < 15, 0 ≤ (FloatOps.fptosi 32 (sampled h (x (ix2 m 3)) (x (ix2 m 5)) (BitVec.ofNat 32 i)) : BitVec 32).toInt
  col : ∀ j < 14, 0 ≤ (FloatOps.fptosi 32 (sampled h (x (ix2 m 2)) (x (ix2 m 4)) (BitVec.ofNat 32 j)) : BitVec 32).toInt

theorem inside_one {h : IVec S_ 32} {c : BitVec 1} {a : F .f32} (e : inside h c a = 1#1) : c = 1#1 ∧ Corner h a := by
  obtain ⟨e1, e2⟩ := IntOp.andi_eq_one.1 e
  obtain ⟨e3, e4⟩ := IntOp.andi_eq_one.1 e1
  exact ⟨e3, e4, e2⟩

theorem sge_one {a b : BitVec 32} (e : IntOp.cmpi .sge a b = 1#1) : b.toInt ≤ a.toInt := by
  by_contra hc
  have : b.sle a = false := by rw [BitVec.sle_eq_decide]; simpa using hc
  simp [IntOp.cmpi, this] at e

theorem slt_one {a b : BitVec 32} (e : IntOp.cmpi .slt a b = 1#1) : a.toInt < b.toInt := by
  by_contra hc
  have : a.slt b = false := by rw [BitVec.slt_eq_decide]; simpa using hc
  simp [IntOp.cmpi, this] at e

/-- The precondition, all ones, read region by region. -/
theorem region_of_fn {x0 : FVec F S4x384x32x32 .f32} {x : FVec F S512x6 .f32} {h : IVec S_ 32} (e : fn x0 x h = fun _ => 1#1)
    (m : Fin 512) : Region x h m := by
  have key (i : Fin 15) := (fn_apply x0 x h m i).symm.trans (congrFun e _)
  have hcorners := IntOp.andi_eq_one.1 (IntOp.andi_eq_one.1 (key 0)).1
  obtain ⟨e1, c5⟩ := inside_one hcorners.1
  obtain ⟨e2, c4⟩ := inside_one e1
  obtain ⟨e3, c3⟩ := inside_one e2
  obtain ⟨e4, c2⟩ := inside_one e3
  obtain ⟨e5, l4⟩ := IntOp.andi_eq_one.1 e4
  obtain ⟨e6, l0⟩ := IntOp.andi_eq_one.1 e5
  refine ⟨sge_one e6, ⟨sge_one l0, slt_one l4⟩, c2, c3, c4, c5, fun i hi => ?_, fun j hj => ?_⟩
  · exact sge_one (IntOp.andi_eq_one.1 (IntOp.andi_eq_one.1 (key ⟨i, hi⟩)).1).2
  · have := sge_one (IntOp.andi_eq_one.1 (key ⟨j, by omega⟩)).2
    rwa [show IntOp.minsi (BitVec.ofNat 32 j) 13#32 = BitVec.ofNat 32 j from
      (by decide : ∀ k : Fin 14, IntOp.minsi (BitVec.ofNat 32 k.val) 13#32 = BitVec.ofNat 32 k.val) ⟨j, hj⟩] at this

end Cert.RoiAlign

end
-- ==== Proof.KernelFrame.lean ====
/-
  The precondition gives what the kernel's proof asks of its regions' words: the words it computes are the precondition's.
-/
module

public import proofs.«01_k».proof.Proof.KernelMain
public import proofs.«01_k».proof.Proof.Precondition

@[expose] public section

noncomputable section

namespace Cert.Proof.KernelRun

open Cert.Kernel Cert.Kernel.Gen Cert.RoiAlign
open Idealize.ShloMosaic
open Idealize.SL.Sem

variable {F : FTy → Type} [FloatOps F]

/-- The words of the regions' table: column `k` at region `m`. -/
theorem words (x : FVec F S512x6 .f32) (h : IVec S_ 32) (k : Fin 5) (m : Fin 512) :
    wordOf (roiOf x h) (512 * k.val + m.val) = (![x (ix2 m 0), FloatOps.mulf (x (ix2 m 2)) (scale h), FloatOps.mulf (x (ix2 m 3)) (scale h),
      FloatOps.mulf (FloatOps.subf (x (ix2 m 4)) (x (ix2 m 2))) (scale h),
      FloatOps.mulf (FloatOps.subf (x (ix2 m 5)) (x (ix2 m 3))) (scale h)] : Fin 5 → F .f32) k :=
  roiOf_apply x h k m _ (Nat.mod_eq_of_lt (by omega))

theorem ys_words (x : FVec F S512x6 .f32) (h : IVec S_ 32) (k : F .f32) (m : Fin 512) (i : ℕ) :
    ys k (wordOf (roiOf x h)) m i = FloatOps.addf (FloatOps.mulf (x (ix2 m 3)) (scale h))
      (FloatOps.mulf (FloatOps.mulf (FloatOps.mulf (FloatOps.subf (x (ix2 m 5)) (x (ix2 m 3))) (scale h)) k) (FloatOps.sitofp .f32 (BitVec.ofNat 32 i))) := by
  have e1 := words x h 2 m
  have e2 := words x h 4 m
  exact congrArg₂ _ e1 (congrArg₂ _ (congrArg₂ _ e2 rfl) rfl)

theorem xs_words (x : FVec F S512x6 .f32) (h : IVec S_ 32) (k : F .f32) (m : Fin 512) (i : ℕ) :
    xs k (wordOf (roiOf x h)) m i = FloatOps.addf (FloatOps.mulf (x (ix2 m 2)) (scale h))
      (FloatOps.mulf (FloatOps.mulf (FloatOps.mulf (FloatOps.subf (x (ix2 m 4)) (x (ix2 m 2))) (scale h)) k) (FloatOps.sitofp .f32 (BitVec.ofNat 32 i))) := by
  have e1 := words x h 1 m
  have e2 := words x h 3 m
  exact congrArg₂ _ e1 (congrArg₂ _ (congrArg₂ _ e2 rfl) rfl)

theorem image_word (x : FVec F S512x6 .f32) (h : IVec S_ 32) (m : Fin 512) : wordOf (roiOf x h) m = x (ix2 m 0) := by
  have e := words x h 0 m
  rw [show 512 * (0 : Fin 5).val + m.val = m.val from by omega] at e
  exact e

/-- The regions of the precondition are in range, for the kernel whose constant is the precondition's. -/
theorem inRange {x : FVec F S512x6 .f32} {h : IVec S_ 32} (e : ∀ m, Region x h m) : InRange kap (wordOf (roiOf x h)) where
  image m hm := by rw [image_word x h ⟨m, hm⟩]; exact (e ⟨m, hm⟩).image
  row m hm i hi := by rw [ys_words x h kap ⟨m, hm⟩]; exact (e ⟨m, hm⟩).row i hi
  col m hm j hj := by rw [xs_words x h kap ⟨m, hm⟩]; exact (e ⟨m, hm⟩).col j hj

/-- The kernel runs, keeps its arguments and ends quiescent. -/
theorem frame : Cert.quiescent_Kernel :=
  fun m g hp => (θ_run _ _ _).mono (fun _ hq => ⟨fun c => (hq.1 c).2, hq.2⟩)
    (run_main m g fun d => inRange fun r => region_of_fn (hp d) r)

end Cert.Proof.KernelRun

end
-- ==== Proof.IdealLanes.lean ====
/-
  What the lanes of one group of sixteen hold: iteration `n` of the innermost loop works on grid positions
  `16 (12 - n) .. 16 (12 - n) + 15` of one region, and each named value of its body, read at a lane, is the matching part of
  `Cert.RoiAlign.value`. Where the stores put the groups: the closed forms of the twelve stores' offsets.
-/
module

public import proofs.«01_k».proof.Defs
public import proofs.«01_k».proof.Proof.Sample
public import proofs.«01_k».proof.Proof.Gen.KernelIdeal
public import proofs.«01_k».proof.Proof.Gen.KernelIdeal.Skeleton

@[expose] public section

noncomputable section

namespace Cert.Proof.IdealRun

open Cert.KernelIdeal Cert.KernelIdeal.Gen Cert.RoiAlign
open Idealize.ShloMosaic

variable {F : FTy → Type} [FloatOps F] [Named F]

/-- The constant the kernel multiplies a region's extents by. -/
abbrev kap : F .f32 := Named.named κ "thirteenth" 0x3D9D89D9#32

/-! ## The loops' counters and the stores' offsets -/

theorem trips1 : k0_t1_loop.trips = 64 := by decide +kernel
theorem trips2 : k0_t2_loop.trips = 8 := by decide +kernel
theorem trips3 : k0_t3_loop.trips = 13 := by decide +kernel

theorem lt1 (t : Fin k0_t1_loop.trips) : t.val < 64 := trips1 ▸ t.isLt
theorem lt2 (t : Fin k0_t2_loop.trips) : t.val < 8 := trips2 ▸ t.isLt
theorem lt3 (t : Fin k0_t3_loop.trips) : t.val < 13 := trips3 ▸ t.isLt

theorem iv01 (n : ℕ) : Scf.iv 0#32 1#32 n = BitVec.ofNat 32 n := by
  unfold Scf.iv; rw [BitVec.mul_one, BitVec.zero_add]

/-- The buffer the outer loop's iteration `n` writes, as the kernel computes it. -/
def half (n : ℕ) : BitVec 32 :=
  let m := Scalar.select (Scalar.cmpi .eq 2#32 0#32) 1#32 2#32
  let r := Scalar.remsi (Scf.iv 0#32 1#32 n) m
  Scalar.select (Scalar.andi (Scalar.xori (Scalar.cmpi .slt r 0#32) (Scalar.cmpi .slt m 0#32)) (Scalar.cmpi .ne r 0#32)) (Scalar.addi r m) r

/-- It is the parity of the iteration. -/
theorem half_eq : ∀ t : Fin 64, (half t.val).toNat = t.val % 2 ∧ (Scalar.indexCast (half t.val)).toNat = t.val % 2 := by decide +kernel

theorem off3_eq (t1 : Fin k0_t1_loop.trips) : k0_off3 t1 = ![t1.val % 2] := by
  funext a; obtain rfl : a = 0 := Subsingleton.elim _ _
  exact (half_eq (Fin.cast trips1 t1)).1
theorem off18_eq (t1 : Fin k0_t1_loop.trips) : k0_off18 t1 = ![t1.val % 2] := off3_eq t1
theorem off16_eq (t1 : Fin k0_t1_loop.trips) : k0_off16 t1 = ![t1.val % 2, 0, 0] := by
  have h := congrFun (off3_eq t1) 0
  funext a
  match a with
  | 0 => exact h
  | 1 => rfl
  | 2 => rfl

/-- The column of channel `c`'s store in iteration `n`. -/
theorem column_eq (c : Fin 12) : ∀ n : Fin 13,
    (Scalar.indexCast (Scalar.addi (BitVec.ofNat 32 (196 * c.val)) (Scalar.muli (Scalar.subi 12#32 (Scf.iv 0#32 1#32 n.val)) 16#32))).toNat
      = 196 * c.val + 16 * (12 - n.val) := by
  revert c; decide +kernel

theorem row_eq : ∀ r : Fin 8, (Scalar.indexCast (Scf.iv 0#32 1#32 r.val)).toNat = r.val := by decide +kernel

/-- Where a store of channel `c` goes. -/
abbrev place (t1 : Fin k0_t1_loop.trips) (t2 : Fin k0_t2_loop.trips) (t3 : Fin k0_t3_loop.trips) (c : ℕ) : Fin 3 → ℕ :=
  ![t1.val % 2, t2.val, 196 * c + 16 * (12 - t3.val)]

section Places

variable (t1 : Fin k0_t1_loop.trips) (t2 : Fin k0_t2_loop.trips) (t3 : Fin k0_t3_loop.trips)

theorem place_of (c : Fin 12) (f : Fin 3 → ℕ) (h0 : f 0 = (Scalar.indexCast (half t1.val)).toNat)
    (h1 : f 1 = (Scalar.indexCast (Scf.iv 0#32 1#32 t2.val)).toNat)
    (h2 : f 2 = (Scalar.indexCast (Scalar.addi (BitVec.ofNat 32 (196 * c.val)) (Scalar.muli (Scalar.subi 12#32 (Scf.iv 0#32 1#32 t3.val)) 16#32))).toNat) :
    f = place t1 t2 t3 c.val := by
  funext a
  match a with
  | 0 => exact h0.trans (half_eq (Fin.cast trips1 t1)).2
  | 1 => exact h1.trans (row_eq (Fin.cast trips2 t2))
  | 2 => exact h2.trans (column_eq c (Fin.cast trips3 t3))

theorem off4_eq : k0_off4 t1 t2 t3 = place t1 t2 t3 0 := place_of t1 t2 t3 0 _ rfl rfl rfl
theorem off5_eq : k0_off5 t1 t2 t3 = place t1 t2 t3 1 := place_of t1 t2 t3 1 _ rfl rfl rfl
theorem off6_eq : k0_off6 t1 t2 t3 = place t1 t2 t3 2 := place_of t1 t2 t3 2 _ rfl rfl rfl
theorem off7_eq : k0_off7 t1 t2 t3 = place t1 t2 t3 3 := place_of t1 t2 t3 3 _ rfl rfl rfl
theorem off8_eq : k0_off8 t1 t2 t3 = place t1 t2 t3 4 := place_of t1 t2 t3 4 _ rfl rfl rfl
theorem off9_eq : k0_off9 t1 t2 t3 = place t1 t2 t3 5 := place_of t1 t2 t3 5 _ rfl rfl rfl
theorem off10_eq : k0_off10 t1 t2 t3 = place t1 t2 t3 6 := place_of t1 t2 t3 6 _ rfl rfl rfl
theorem off11_eq : k0_off11 t1 t2 t3 = place t1 t2 t3 7 := place_of t1 t2 t3 7 _ rfl rfl rfl
theorem off12_eq : k0_off12 t1 t2 t3 = place t1 t2 t3 8 := place_of t1 t2 t3 8 _ rfl rfl rfl
theorem off13_eq : k0_off13 t1 t2 t3 = place t1 t2 t3 9 := place_of t1 t2 t3 9 _ rfl rfl rfl
theorem off14_eq : k0_off14 t1 t2 t3 = place t1 t2 t3 10 := place_of t1 t2 t3 10 _ rfl rfl rfl
theorem off15_eq : k0_off15 t1 t2 t3 = place t1 t2 t3 11 := place_of t1 t2 t3 11 _ rfl rfl rfl

end Places

/-! ## The lanes -/

/-- The kernel's lane numbers. -/
abbrev lanes : IVec S16 32 := iota .scVector S16 32 [0] iota_S16_d0_w32_scVector

theorem lanes_apply (l : S16.Idx) : lanes l = BitVec.ofNat 32 (l 0).val := by
  show BitVec.ofNat 32 (0 * 16 + (l 0).val) = _
  rw [Nat.zero_mul, Nat.zero_add]

/-- The grid position of lane `l` in iteration `n`. -/
abbrev pos (n : Fin k0_t3_loop.trips) (l : S16.Idx) : ℕ := 16 * (12 - n.val) + (l 0).val

theorem pos_lt (n : Fin k0_t3_loop.trips) (l : S16.Idx) : pos n l < 208 := by
  have : (l 0).val < 16 := (l 0).isLt
  unfold pos; omega

section Lanes

variable (n : Fin k0_t3_loop.trips) (l : S16.Idx)

theorem pay2_apply : k0_pay2 lanes 0#32 1#32 n l = BitVec.ofNat 32 (pos n l / 14) := by
  refine Eq.trans ?_ (lane_eq (Fin.cast trips3 n) (l 0)).1
  show IntOp.shrsi .vector (IntOp.muli (IntOp.addi (Scalar.muli (Scalar.subi 12#32 (Scf.iv 0#32 1#32 n.val)) 16#32) (lanes l)) 4682#32) 16#32 = _
  rw [iv01, lanes_apply]
  rfl

theorem rest_apply : IntOp.subi (k0_pay1 lanes 0#32 1#32 n l) (IntOp.muli (k0_pay2 lanes 0#32 1#32 n l) 14#32) = BitVec.ofNat 32 (pos n l % 14) := by
  rw [pay2_apply]
  refine Eq.trans ?_ (lane_eq (Fin.cast trips3 n) (l 0)).2
  show IntOp.subi (IntOp.addi (Scalar.muli (Scalar.subi 12#32 (Scf.iv 0#32 1#32 n.val)) 16#32) (lanes l)) _ = _
  rw [iv01, lanes_apply]
  rfl

variable {R : ℕ → F .f32} {m : ℕ} {v52 v55 v58 v61 v66 : Vec F S16 .f32}

/-- The five vectors of a region, each the region's word of one column of the table in every lane. -/
structure RegionVecs (R : ℕ → F .f32) (m : ℕ) (v52 v55 v58 v61 v66 : Vec F S16 .f32) : Prop where
  img : ∀ l, v52 l = R m
  x1 : ∀ l, v55 l = R (512 + m)
  y1 : ∀ l, v58 l = R (1024 + m)
  dx : ∀ l, v61 l = R (1536 + m)
  dy : ∀ l, v66 l = R (2048 + m)

variable (h : RegionVecs R m v52 v55 v58 v61 v66)

include h

theorem pay3_apply : k0_pay3 lanes v58 (k0_pay88 v66) 0#32 1#32 n l = ys kap R m (pos n l / 14) := by
  show FloatOps.addf (v58 l) (FloatOps.mulf (FloatOps.mulf (v66 l) kap) (FloatOps.sitofp .f32 (k0_pay2 lanes 0#32 1#32 n l))) = _
  rw [h.y1, h.dy, pay2_apply]; rfl

theorem pay4_apply : k0_pay4 lanes v55 (k0_pay86 v61) 0#32 1#32 n l = xs kap R m (pos n l % 14) := by
  show FloatOps.addf (v55 l) (FloatOps.mulf (FloatOps.mulf (v61 l) kap)
    (FloatOps.sitofp .f32 (IntOp.subi (k0_pay1 lanes 0#32 1#32 n l) (IntOp.muli (k0_pay2 lanes 0#32 1#32 n l) 14#32)))) = _
  rw [h.x1, h.dx, rest_apply]; rfl

theorem pay5_apply : k0_pay5 lanes v58 (k0_pay88 v66) 0#32 1#32 n l = cell (ys kap R m (pos n l / 14)) := by
  rw [← pay3_apply n l h]; rfl
theorem pay6_apply : k0_pay6 lanes v55 (k0_pay86 v61) 0#32 1#32 n l = cell (xs kap R m (pos n l % 14)) := by
  rw [← pay4_apply n l h]; rfl
theorem pay7_apply : k0_pay7 lanes v58 (k0_pay88 v66) 0#32 1#32 n l = frac (ys kap R m (pos n l / 14)) := by
  rw [← pay3_apply n l h]; rfl
theorem pay8_apply : k0_pay8 lanes v55 (k0_pay86 v61) 0#32 1#32 n l = frac (xs kap R m (pos n l % 14)) := by
  rw [← pay4_apply n l h]; rfl
theorem pay9_apply : k0_pay9 lanes v55 (k0_pay86 v61) 0#32 1#32 n l = nextCell (cell (xs kap R m (pos n l % 14))) := by
  rw [← pay6_apply n l h]; rfl
theorem pay89_apply : k0_pay89 v52 l = image R m := by
  show IntOp.muli (FloatOps.fptosi 32 (v52 l)) 1024#32 = _
  rw [h.img]; rfl
theorem pay12_apply : k0_pay12 lanes v55 v58 (k0_pay86 v61) (k0_pay88 v66) (k0_pay89 v52) 0#32 1#32 n l
    = word (image R m) (cell (ys kap R m (pos n l / 14))) (cell (xs kap R m (pos n l % 14))) := by
  rw [← pay89_apply l h, ← pay5_apply n l h, ← pay6_apply n l h]; rfl
theorem pay14_apply : k0_pay14 (k0_pay13 lanes v55 v58 (k0_pay86 v61) (k0_pay88 v66) (k0_pay89 v52) 0#32 1#32 n) l
    = word (image R m) (cell (ys kap R m (pos n l / 14))) (nextCell (cell (xs kap R m (pos n l % 14)))) := by
  rw [← pay89_apply l h, ← pay5_apply n l h, ← pay9_apply n l h]; rfl
theorem pay15_apply : k0_pay15 (k0_pay6 lanes v55 (k0_pay86 v61) 0#32 1#32 n) (k0_pay11 lanes v58 (k0_pay88 v66) (k0_pay89 v52) 0#32 1#32 n) l
    = word (image R m) (nextCell (cell (ys kap R m (pos n l / 14)))) (cell (xs kap R m (pos n l % 14))) := by
  rw [← pay89_apply l h, ← pay5_apply n l h, ← pay6_apply n l h]; rfl
theorem pay16_apply : k0_pay16 (k0_pay9 lanes v55 (k0_pay86 v61) 0#32 1#32 n) (k0_pay11 lanes v58 (k0_pay88 v66) (k0_pay89 v52) 0#32 1#32 n) l
    = word (image R m) (nextCell (cell (ys kap R m (pos n l / 14)))) (nextCell (cell (xs kap R m (pos n l % 14)))) := by
  rw [← pay89_apply l h, ← pay5_apply n l h, ← pay9_apply n l h]; rfl

end Lanes

/-! ## A group's base words and weights -/

/-- What a group's body computes before its first gather: the words at which the four neighbours' features begin, all at most
    49140, and the two fractions. -/
structure GroupVecs (R : ℕ → F .f32) (m : ℕ) (n : Fin k0_t3_loop.trips) (a b c d : IVec S16 32) (wy wx : FVec F S16 .f32) : Prop where
  le : ∀ l, (a l).toNat ≤ 49140 ∧ (b l).toNat ≤ 49140 ∧ (c l).toNat ≤ 49140 ∧ (d l).toNat ≤ 49140
  a : ∀ l, a l = word (image R m) (cell (ys kap R m (pos n l / 14))) (cell (xs kap R m (pos n l % 14)))
  b : ∀ l, b l = word (image R m) (cell (ys kap R m (pos n l / 14))) (nextCell (cell (xs kap R m (pos n l % 14))))
  c : ∀ l, c l = word (image R m) (nextCell (cell (ys kap R m (pos n l / 14)))) (cell (xs kap R m (pos n l % 14)))
  d : ∀ l, d l = word (image R m) (nextCell (cell (ys kap R m (pos n l / 14)))) (nextCell (cell (xs kap R m (pos n l % 14))))
  wy : ∀ l, wy l = frac (ys kap R m (pos n l / 14))
  wx : ∀ l, wx l = frac (xs kap R m (pos n l % 14))

theorem groupVecs {R : ℕ → F .f32} {m : ℕ} {v52 v55 v58 v61 v66 : Vec F S16 .f32} (hR : InRange kap R) (hm : m < 512)
    (h : RegionVecs R m v52 v55 v58 v61 v66) (n : Fin k0_t3_loop.trips) :
    GroupVecs R m n (k0_pay12 lanes v55 v58 (k0_pay86 v61) (k0_pay88 v66) (k0_pay89 v52) 0#32 1#32 n)
      (k0_pay14 (k0_pay13 lanes v55 v58 (k0_pay86 v61) (k0_pay88 v66) (k0_pay89 v52) 0#32 1#32 n))
      (k0_pay15 (k0_pay6 lanes v55 (k0_pay86 v61) 0#32 1#32 n) (k0_pay11 lanes v58 (k0_pay88 v66) (k0_pay89 v52) 0#32 1#32 n))
      (k0_pay16 (k0_pay9 lanes v55 (k0_pay86 v61) 0#32 1#32 n) (k0_pay11 lanes v58 (k0_pay88 v66) (k0_pay89 v52) 0#32 1#32 n))
      (k0_pay7 lanes v58 (k0_pay88 v66) 0#32 1#32 n) (k0_pay8 lanes v55 (k0_pay86 v61) 0#32 1#32 n) where
  le l := by
    rw [pay12_apply n l h, pay14_apply n l h, pay15_apply n l h, pay16_apply n l h]
    have hi := image_le (hR.image m hm).1 (hR.image m hm).2
    have hp := pos_lt n l
    have hy := cell_le (hR.row m hm (pos n l / 14) (by omega))
    have hx := cell_le (hR.col m hm (pos n l % 14) (Nat.mod_lt _ (by omega)))
    exact ⟨(word_le hi hy hx).1, (word_le hi hy (nextCell_le hx)).1, (word_le hi (nextCell_le hy) hx).1, (word_le hi (nextCell_le hy) (nextCell_le hx)).1⟩
  a l := pay12_apply n l h
  b l := pay14_apply n l h
  c l := pay15_apply n l h
  d l := pay16_apply n l h
  wy l := pay7_apply n l h
  wx l := pay8_apply n l h

/-- A word at most 49140 plus a channel below 12 names a word of the table. -/
theorem word_add {w : BitVec 32} {c : ℕ} (hw : w.toNat ≤ 49140) (hc : c < 12) : (IntOp.addi w (BitVec.ofNat 32 c)).toNat < 49152 := by
  unfold IntOp.addi
  rw [BitVec.toNat_add, BitVec.toNat_ofNat, Nat.mod_eq_of_lt (by omega : c < 2 ^ 32), Nat.mod_eq_of_lt (by omega)]
  omega

theorem chkOf {w : IVec S16 32} (hw : ∀ l, (w l).toNat ≤ 49140) (c : ℕ) (hc : c < 12) :
    ∀ a x, ((![addi w (broadcast S16 (BitVec.ofNat 32 c))] : Fin 1 → IVec S16 32) a x).toNat < S49152.size a := by
  intro a x
  obtain rfl : a = 0 := Subsingleton.elim _ _
  exact word_add (hw x) hc

/-- The gather of channel `c` at base words `w`, read at a lane. -/
theorem gather_apply {T : ℕ → F .f32} {f : Vec F S49152 .f32} (hf : ∀ x, f x = T (x 0).val) (w : IVec S16 32) (c : ℕ)
    (hidx : ∀ a x, ((![addi w (broadcast S16 (BitVec.ofNat 32 c))] : Fin 1 → IVec S16 32) a x).toNat < S49152.size a) (l : S16.Idx) :
    loadIdx f ![addi w (broadcast S16 (BitVec.ofNat 32 c))] hidx l = T (IntOp.addi (w l) (BitVec.ofNat 32 c)).toNat := by
  rw [show loadIdx f ![addi w (broadcast S16 (BitVec.ofNat 32 c))] hidx l = f (idxAt _ hidx l) from rfl, hf]
  rfl

/-- The blend of a channel's four gathers at a lane, as the body computes it, is the element of the result. -/
theorem value_apply {T R : ℕ → F .f32} {m : ℕ} {n : Fin k0_t3_loop.trips} {a b c d : IVec S16 32} {wy wx : FVec F S16 .f32}
    (h : GroupVecs R m n a b c d wy wx) {f : Vec F S49152 .f32} (hf : ∀ x, f x = T (x 0).val) (ch : ℕ) (hc : ch < 12) (l : S16.Idx) :
    blend (wy l) (wx l)
      (loadIdx f ![addi a (broadcast S16 (BitVec.ofNat 32 ch))] (chkOf (fun l => (h.le l).1) ch hc) l)
      (loadIdx f ![addi b (broadcast S16 (BitVec.ofNat 32 ch))] (chkOf (fun l => (h.le l).2.1) ch hc) l)
      (loadIdx f ![addi c (broadcast S16 (BitVec.ofNat 32 ch))] (chkOf (fun l => (h.le l).2.2.1) ch hc) l)
      (loadIdx f ![addi d (broadcast S16 (BitVec.ofNat 32 ch))] (chkOf (fun l => (h.le l).2.2.2) ch hc) l)
      = value kap T R m ch (pos n l / 14) (pos n l % 14) := by
  rw [gather_apply hf, gather_apply hf, gather_apply hf, gather_apply hf, h.a, h.b, h.c, h.d, h.wy, h.wx]
  rfl

end Cert.Proof.IdealRun

end
-- ==== Proof.IdealGroup.lean ====
/-
  The innermost loop of a tile: one region, thirteen groups of sixteen grid positions, twelve channels each. Every gather names
  words of the tile's table, every store puts a group's channel at its place, and after the thirteen groups the region's row of
  the output buffer holds the result's elements.
-/
module

public import proofs.«01_k».proof.Proof.IdealLanes
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Writes
public import Idealize.ShloMosaic.Lib.ValueLayout

@[expose] public section

noncomputable section

namespace Cert.Proof.IdealRun

open Cert.KernelIdeal Cert.KernelIdeal.Gen Cert.RoiAlign
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The program and the resources its proof runs over -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds beside the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-- A tile's memrefs: the features, the regions and the result in HBM; the tile's table, its copy of the regions and its two
    output buffers. -/
abbrev tabW : Memref sig .scVector .hbm S32x49152 .f32 := Memref.whole main_v31_scv
abbrev roiW : Memref sig .scVector .hbm S2560 .f32 := Memref.whole main_v26_scv
abbrev outW : Memref sig .scVector .hbm S512x75264 .f32 := Memref.whole main_v32_scv
abbrev sT : Memref sig .scVector .vmem S49152 .f32 := Memref.whole cc0_scratch0
abbrev sR : Memref sig .scVector .vmem S2560 .f32 := Memref.whole cc0_scratch1
abbrev sO : Memref sig .scVector .vmem S2x8x2368 .f32 := Memref.whole cc0_scratch2

/-! ## The output buffer's contents, as the stores go -/

/-- The contents of the pair of output buffers. -/
abbrev Slab (F : FTy → Type) : Type := S2x8x2368.Idx → Elt F .f32

/-- In block `t`'s buffer, the regions before `r` hold their elements, and of region `r` the groups before iteration `n`, and of
    that iteration's group the channels before `c`. -/
def Done (T R : ℕ → F .f32) (t r n c : ℕ) (f : Slab F) : Prop :=
  ∀ y : S2x8x2368.Idx, (y 0).val = t % 2 → (y 2).val < 2352 →
    ((y 1).val < r ∨ (y 1).val = r ∧ (16 * (13 - n) ≤ (y 2).val % 196 ∨ 16 * (12 - n) ≤ (y 2).val % 196 ∧ (y 2).val / 196 < c)) →
    f y = value kap T R (8 * t + (y 1).val) ((y 2).val / 196) ((y 2).val % 196 / 14) ((y 2).val % 196 % 14)

theorem Done.start {T R : ℕ → F .f32} {t : ℕ} (f : Slab F) : Done T R t 0 0 0 f := by
  intro y _ _ h
  omega

theorem Done.nextGroup {T R : ℕ → F .f32} {t r n : ℕ} {f : Slab F} (hn : n < 13) (h : Done T R t r n 12 f) : Done T R t r (n + 1) 0 f := by
  intro y h0 h2 hy
  refine h y h0 h2 ?_
  omega

theorem Done.nextRegion {T R : ℕ → F .f32} {t r : ℕ} {f : Slab F} (h : Done T R t r 13 0 f) : Done T R t (r + 1) 0 0 f := by
  intro y h0 h2 hy
  refine h y h0 h2 ?_
  omega

/-- The rectangle of sixteen words a store writes. -/
abbrev lane16 (off : Fin 3 → ℕ) (inb : ∀ a, off a + S1x1x16.size a ≤ S2x8x2368.size a) : Rect S2x8x2368 :=
  Rect.unit (s := S2x8x2368) off S1x1x16.size inb

/-- The one row of sixteen lanes, read at a lane. -/
theorem cast_lane {α : Type} (w : S16.Idx → α) (hs : S16.ShapeCasts S1x1x16) (x : S1x1x16.Idx) :
    shapeCast S1x1x16 w hs x = w (ValueIdx.ix1 (x 2)) := by
  refine congrArg w ?_
  apply Shape.reshapeEquiv_eq_of_rowMajor
  have h0 : (x 0).val < 1 := (x 0).isLt
  have h1 : (x 1).val < 1 := (x 1).isLt
  refine (Shape.rowMajor_val_one _).trans (.trans ?_ (Shape.rowMajor_val_three x).symm)
  show (x 2).val = ((x 0).val * 1 + (x 1).val) * 16 + (x 2).val
  omega

/-- A store of channel `c` at its place extends what is done. -/
theorem Done.store {T R : ℕ → F .f32} {t r n c : ℕ} {f : Slab F} (hn : n < 13) (h : Done T R t r n c f)
    {off : Fin 3 → ℕ} (hoff : off = ![t % 2, r, 196 * c + 16 * (12 - n)]) (inb : ∀ a, off a + S1x1x16.size a ≤ S2x8x2368.size a)
    (w : FVec F S16 .f32) (hw : ∀ l : S16.Idx, 16 * (12 - n) + (l 0).val < 196 →
      w l = value kap T R (8 * t + r) c ((16 * (12 - n) + (l 0).val) / 14) ((16 * (12 - n) + (l 0).val) % 14))
    (hs : S16.ShapeCasts S1x1x16) :
    Done T R t r n (c + 1) ((sO.access (lane16 off inb)).write (Elt F) f (shapeCast S1x1x16 w hs) Finset.univ) := by
  subst hoff
  intro y h0 h2 hy
  change sO.view.read (Elt F) (sO.view.writes (Elt F) f [⟨lane16 ![t % 2, r, 196 * c + 16 * (12 - n)] inb, shapeCast S1x1x16 w hs⟩]) y = _
  by_cases hit : (y 1).val = r ∧ 196 * c + 16 * (12 - n) ≤ (y 2).val ∧ (y 2).val < 196 * c + 16 * (12 - n) + 16
  · obtain ⟨h1, hlo, hhi⟩ := hit
    let k : Fin 16 := ⟨(y 2).val - (196 * c + 16 * (12 - n)), by omega⟩
    have hk : k.val = (y 2).val - (196 * c + 16 * (12 - n)) := rfl
    rw [View.read_writes_cons_hit_of_coords (x := ValueIdx.ix3 (0 : Fin 1) (0 : Fin 1) k) (hx := by
      intro a
      match a with
      | 0 => show (y 0).val = t % 2 + 1 * 0; omega
      | 1 => show (y 1).val = r + 1 * 0; omega
      | 2 => show (y 2).val = 196 * c + 16 * (12 - n) + 1 * k.val; omega), cast_lane]
    have hin : 16 * (12 - n) + k.val < 196 := by omega
    rw [hw _ hin]
    show value kap T R (8 * t + r) c ((16 * (12 - n) + k.val) / 14) ((16 * (12 - n) + k.val) % 14) = _
    have e1 : (y 2).val / 196 = c := by omega
    have e2 : (y 2).val % 196 = 16 * (12 - n) + k.val := by omega
    rw [e1, e2, h1]
  · have : (y 1).val < r ∨ (y 1).val = r ∧ (16 * (13 - n) ≤ (y 2).val % 196 ∨ 16 * (12 - n) ≤ (y 2).val % 196 ∧ (y 2).val / 196 < c) := by omega
    rw [View.read_writes_cons_miss]
    · exact h y h0 h2 this
    · intro hm
      have hm := (Rect.mem_set_unit (inb := inb)).mp hm
      have m1 := hm 1
      have m2 := hm 2
      change r ≤ (y 1).val ∧ (y 1).val < r + 1 at m1
      change 196 * c + 16 * (12 - n) ≤ (y 2).val ∧ (y 2).val < 196 * c + 16 * (12 - n) + 16 at m2
      omega

/-! ## The rules for the body's gathers and stores -/

section Rules

variable (d : Dev nD) (L : grid0.Coords)

abbrev cV (L : grid0.Coords) : Fin τ.nSC := (L 0).castLE hcore0
abbrev jV (L : grid0.Coords) : Fin τ.nSub := (L 1).castLE hsub0
/-- The tile's thread. -/
abbrev thr : Thread nD τ := V d (cV L) (jV L)

abbrev tPts (f : Buf (Elt F) ((thr d L).loc cc0_scratch0)) : sProp 𝕄 := (thr d L).loc cc0_scratch0 ↦{fullShare} f
abbrev rPts (f : Buf (Elt F) ((thr d L).loc cc0_scratch1)) : sProp 𝕄 := (thr d L).loc cc0_scratch1 ↦{fullShare} f

variable {α : Type}

/-- A checked gather's load of the table. -/
theorem wp_table {Q : α → sProp 𝕄} {P : Prop} {dec : Decidable P} (hP : P) {hl : sT.view.LoadsAt (Rect.whole S49152).toLoadRect}
    {k : PLift P → (S49152.Idx → Elt F .f32) → Prog (TpuEff nD τ sig (Elt F) Λ₀ (thr d L).2) α} {f : S49152.Idx → Elt F .f32} :
    tPts d L f ⊢ iprop((tPts d L f -∗ wp frame (wpE (defs₀ (F := F)) 𝒱₀ (thr d L) none) Set.univ (k ⟨hP⟩ f) Q)
      -∗ wp frame (wpE (defs₀ (F := F)) 𝒱₀ (thr d L) none) Set.univ (.op (.assume P dec) fun h => .op (.load sT (Rect.whole S49152).toLoadRect hl) (k h)) Q) := by
  rw [wp_assume_of _ _ _ _ hP]
  iintro H Hk
  iapply (wp_load_rect (defs := defs₀ (F := F)) 𝒱₀ (thr d L) none Set.univ (Q := Q) (m := sT) (r := Rect.whole S49152) (hl := hl) (k := k ⟨hP⟩)
    (S := Finset.univ) (q := fullShare) (f := f) (Finset.subset_univ _)) $$ H
  rw [show (sT.access (Rect.whole S49152)).read (Elt F) f = f from Memref.read_access_whole (Elt F) cc0_scratch0 f]
  iexact Hk

/-- A checked gather's load of the regions. -/
theorem wp_regions {Q : α → sProp 𝕄} {P : Prop} {dec : Decidable P} (hP : P) {hl : sR.view.LoadsAt (Rect.whole S2560).toLoadRect}
    {k : PLift P → (S2560.Idx → Elt F .f32) → Prog (TpuEff nD τ sig (Elt F) Λ₀ (thr d L).2) α} {f : S2560.Idx → Elt F .f32} :
    rPts d L f ⊢ iprop((rPts d L f -∗ wp frame (wpE (defs₀ (F := F)) 𝒱₀ (thr d L) none) Set.univ (k ⟨hP⟩ f) Q)
      -∗ wp frame (wpE (defs₀ (F := F)) 𝒱₀ (thr d L) none) Set.univ (.op (.assume P dec) fun h => .op (.load sR (Rect.whole S2560).toLoadRect hl) (k h)) Q) := by
  rw [wp_assume_of _ _ _ _ hP]
  iintro H Hk
  iapply (wp_load_rect (defs := defs₀ (F := F)) 𝒱₀ (thr d L) none Set.univ (Q := Q) (m := sR) (r := Rect.whole S2560) (hl := hl) (k := k ⟨hP⟩)
    (S := Finset.univ) (q := fullShare) (f := f) (Finset.subset_univ _)) $$ H
  rw [show (sR.access (Rect.whole S2560)).read (Elt F) f = f from Memref.read_access_whole (Elt F) cc0_scratch1 f]
  iexact Hk

/-- The words of the output buffers that block `t`'s work may touch: its own half, and the words past the rows' ends. -/
def halfSet (t : ℕ) : Finset S2x8x2368.Idx := Finset.univ.filter fun y => (y 0).val = t % 2 ∨ 2352 ≤ (y 2).val

/-- The half held, at contents done so far. -/
def slab (T R : ℕ → F .f32) (t r n c : ℕ) : sProp 𝕄 :=
  iprop(∃ f : Buf (Elt F) ((thr d L).loc cc0_scratch2), ⌜Done T R t r n c f⌝ ∗ (thr d L).loc cc0_scratch2 ↦[halfSet t]{fullShare} f)

/-- A store of channel `c`: the load before it reads what is not used, and the half is done one channel further. -/
theorem wp_channel {Q : α → sProp 𝕄} {T R : ℕ → F .f32} {t r n : ℕ} (c : ℕ) (hn : n < 13) {off : Fin 3 → ℕ}
    (hoff : off = ![t % 2, r, 196 * c + 16 * (12 - n)]) {inb : ∀ a, off a + S1x1x16.size a ≤ S2x8x2368.size a}
    {w : FVec F S16 .f32} (hw : ∀ l : S16.Idx, 16 * (12 - n) + (l 0).val < 196 →
      w l = value kap T R (8 * t + r) c ((16 * (12 - n) + (l 0).val) / 14) ((16 * (12 - n) + (l 0).val) % 14))
    {hs : S16.ShapeCasts S1x1x16} {hl : sO.view.LoadsAt (lane16 off inb).toLoadRect} {hx : (sO.access (lane16 off inb)).Stores Finset.univ}
    {hm : Finset.univ = Finset.univ ∨ ∀ a, (lane16 off inb).stride a = 1} {k : PUnit → Prog (TpuEff nD τ sig (Elt F) Λ₀ (thr d L).2) α} :
    slab d L T R t r n c ⊢ iprop((slab d L T R t r n (c + 1) -∗ wp frame (wpE (defs₀ (F := F)) 𝒱₀ (thr d L) none) Set.univ (k ⟨⟩) Q)
      -∗ wp frame (wpE (defs₀ (F := F)) 𝒱₀ (thr d L) none) Set.univ
        (.op (.load sO (lane16 off inb).toLoadRect hl) fun _ => .op (.store sO (lane16 off inb) (shapeCast S1x1x16 w hs) Finset.univ hx hm) k) Q) := by
  have hset : (sO.access (lane16 off inb)).set ⊆ halfSet t := by
    intro y hy
    have hy : y ∈ (lane16 off inb).set := by rw [← View.set_slice_whole cc0_scratch2 (lane16 off inb)]; exact hy
    have h0 := Rect.mem_set_unit.mp hy 0
    subst hoff
    change t % 2 ≤ (y 0).val ∧ (y 0).val < t % 2 + 1 at h0
    exact Finset.mem_filter.mpr ⟨Finset.mem_univ _, .inl (by omega)⟩
  unfold slab
  iintro ⟨%f, %hf, H⟩ Hk
  iapply (wp_load_rect (defs := defs₀ (F := F)) 𝒱₀ (thr d L) none Set.univ (m := sO) (r := lane16 off inb) (S := halfSet t) (q := fullShare) (f := f) hset) $$ H
  iintro H
  iapply (wp_store (defs := defs₀ (F := F)) 𝒱₀ (thr d L) none Set.univ (m := sO) (r := lane16 off inb) (S := halfSet t) (f := f) hset) $$ H
  iintro H
  iapply Hk
  iexists _
  isplitr
  · ipureintro; exact Done.store hn hf hoff inb w hw hs
  · iexact H

/-- A checked gather's load of the table, what else is held passed along. -/
theorem table_step {Q : α → sProp 𝕄} {X : sProp 𝕄} {P : Prop} {dec : Decidable P} (hP : P) {hl : sT.view.LoadsAt (LoadRect.whole S49152)}
    {k : PLift P → (S49152.Idx → Elt F .f32) → Prog (TpuEff nD τ sig (Elt F) Λ₀ (thr d L).2) α} {f : S49152.Idx → Elt F .f32}
    (hk : iprop(tPts d L f ∗ X) ⊢ wp frame (wpE (defs₀ (F := F)) 𝒱₀ (thr d L) none) Set.univ (k ⟨hP⟩ f) Q) :
    iprop(tPts d L f ∗ X) ⊢ wp frame (wpE (defs₀ (F := F)) 𝒱₀ (thr d L) none) Set.univ
      (.op (.assume P dec) fun h => .op (.load sT (LoadRect.whole S49152) hl) (k h)) Q := by
  iintro ⟨HT, HX⟩
  iapply (wp_table d L hP) $$ HT; iintro HT
  iapply hk
  isplitl [HT]
  · iexact HT
  · iexact HX

/-- A checked gather's load of the regions, what else is held passed along. -/
theorem regions_step {Q : α → sProp 𝕄} {X : sProp 𝕄} {P : Prop} {dec : Decidable P} (hP : P) {hl : sR.view.LoadsAt (LoadRect.whole S2560)}
    {k : PLift P → (S2560.Idx → Elt F .f32) → Prog (TpuEff nD τ sig (Elt F) Λ₀ (thr d L).2) α} {f : S2560.Idx → Elt F .f32}
    (hk : iprop(rPts d L f ∗ X) ⊢ wp frame (wpE (defs₀ (F := F)) 𝒱₀ (thr d L) none) Set.univ (k ⟨hP⟩ f) Q) :
    iprop(rPts d L f ∗ X) ⊢ wp frame (wpE (defs₀ (F := F)) 𝒱₀ (thr d L) none) Set.univ
      (.op (.assume P dec) fun h => .op (.load sR (LoadRect.whole S2560) hl) (k h)) Q := by
  iintro ⟨HT, HX⟩
  iapply (wp_regions d L hP) $$ HT; iintro HT
  iapply hk
  isplitl [HT]
  · iexact HT
  · iexact HX

/-- A counted loop at the head of a program, by an invariant that does not look at the carried word. -/
theorem loop_step {Q : α → sProp 𝕄} {P : sProp 𝕄} (I : ℕ → sProp 𝕄) {l : Scf.Loop 32} {hok : l.OK} {init : BitVec 32}
    {body : Fin l.trips → BitVec 32 → Prog (TpuEff nD τ sig (Elt F) Λ₀ (thr d L).2) (BitVec 32)}
    {k : BitVec 32 → Prog (TpuEff nD τ sig (Elt F) Λ₀ (thr d L).2) α} (h0 : P ⊢ I 0)
    (hI : ∀ (n : Fin l.trips) acc, I n.val ⊢ wp frame (wpE (defs₀ (F := F)) 𝒱₀ (thr d L) none) Set.univ (body n acc) fun _ => I (n.val + 1))
    (hk : ∀ acc, I l.trips ⊢ wp frame (wpE (defs₀ (F := F)) 𝒱₀ (thr d L) none) Set.univ (k acc) Q) :
    P ⊢ wp frame (wpE (defs₀ (F := F)) 𝒱₀ (thr d L) none) Set.univ (Scf.Loop.for l hok init body >>= k) Q := by
  iintro H
  iapply (Scf.wp_for_bind frame (wpE (defs₀ (F := F)) 𝒱₀ (thr d L) none) Set.univ l.lb l.ub l.st hok init body (fun n _ => I n) hI) $$ [H]
  · iapply h0; iexact H
  · iintro %acc H
    iapply (hk acc)
    iexact H

/-- A store of channel `c`, the table held passed along. -/
theorem channel_step {Q : α → sProp 𝕄} {X : sProp 𝕄} {T R : ℕ → F .f32} {t r n : ℕ} (c c₁ : ℕ) (hc : c₁ = c + 1) (hn : n < 13) {off : Fin 3 → ℕ}
    (hoff : off = ![t % 2, r, 196 * c + 16 * (12 - n)]) {inb : ∀ a, off a + S1x1x16.size a ≤ S2x8x2368.size a}
    {w : FVec F S16 .f32}
    {hs : S16.ShapeCasts S1x1x16} {hl : sO.view.LoadsAt (lane16 off inb).toLoadRect} {hx : (sO.access (lane16 off inb)).Stores Finset.univ}
    {hm : Finset.univ = Finset.univ ∨ ∀ a, (lane16 off inb).stride a = 1} {k : PUnit → Prog (TpuEff nD τ sig (Elt F) Λ₀ (thr d L).2) α}
    (hw : ∀ l : S16.Idx, 16 * (12 - n) + (l 0).val < 196 →
      w l = value kap T R (8 * t + r) c ((16 * (12 - n) + (l 0).val) / 14) ((16 * (12 - n) + (l 0).val) % 14))
    (hk : iprop(X ∗ slab d L T R t r n c₁) ⊢ wp frame (wpE (defs₀ (F := F)) 𝒱₀ (thr d L) none) Set.univ (k ⟨⟩) Q) :
    iprop(X ∗ slab d L T R t r n c) ⊢ wp frame (wpE (defs₀ (F := F)) 𝒱₀ (thr d L) none) Set.univ
        (.op (.load sO (lane16 off inb).toLoadRect hl) fun _ => .op (.store sO (lane16 off inb) (shapeCast S1x1x16 w hs) Finset.univ hx hm) k) Q := by
  subst hc
  iintro ⟨HX, HS⟩
  iapply (wp_channel d L c hn hoff hw) $$ HS; iintro HS
  iapply hk
  isplitl [HX]
  · iexact HX
  · iexact HS

end Rules

/-! ## One group -/

section Group

variable (d : Dev nD) (L : grid0.Coords)
variable (w2 : tabW.IsWhole) (w3 : roiW.IsWhole) (w4 : outW.IsWhole) (w5 : sT.IsWhole) (w6 : sR.IsWhole) (w7 : sO.IsWhole)
variable (a8 : DmaSems sig S2) (r0 r1 : DmaSems sig S_)

omit [FloatOps F] [Named F] in
/-- A gather at the head of a tile's program: the load of the whole buffer, then the lanes' words of it. -/
theorem gather_bind {p : Proc τ} {s t : Shape} {e : EltTy} {α : Type} (base : Memref sig p.kind .vmem s e) (idxs : Fin s.rank → IVec t 32)
    (h : ∀ a x, (idxs a x).toNat < s.size a) (hl : base.view.Loads) (k : Vec F t e → Prog (TpuEff nD τ sig (Elt F) Λ₀ p) α) :
    SparseCore.vectorLoadIdx base idxs h hl >>= k
      = .op (.load base (.whole s) (View.loadsAt_whole hl)) fun f => k (loadIdx f idxs h) := rfl

set_option maxHeartbeats 1000000 in
/-- One group's run of the innermost loop's body: the group's twelve channels are done, the table unchanged. -/
theorem group_step {T R : ℕ → F .f32} (hR : InRange kap R) (t1 : Fin k0_t1_loop.trips) (t2 : Fin k0_t2_loop.trips)
    {v52 v55 v58 v61 v66 : Vec F S16 .f32} (hv : RegionVecs R (8 * t1.val + t2.val) v52 v55 v58 v61 v66)
    {f : S49152.Idx → Elt F .f32} (hf : ∀ x, f x = T (x 0).val) (v33 a11 acc : BitVec 32) (n : Fin k0_t3_loop.trips) :
    iprop(tPts d L f ∗ slab d L T R t1.val t2.val n.val 0)
      ⊢ wp frame (wpE (defs₀ (F := F)) 𝒱₀ (thr d L) none) Set.univ
        (k0_t3_body (F := F) L tabW w2 roiW w3 outW w4 sT w5 sR w6 sO w7 a8 r0 r1 lanes t1 v33 t2 a11 v52 v55 v58 v61 v66 n acc)
        fun _ => iprop(tPts d L f ∗ slab d L T R t1.val t2.val n.val 12) := by
  have hn := lt3 n
  have ht := lt1 t1
  have hr := lt2 t2
  have hg := groupVecs hR (by omega : 8 * t1.val + t2.val < 512) hv n
  unfold k0_t3_body
  simp only [k0_part1_eq_skeleton, k0_part1_skel, Prog.pure_eq_ret, Prog.bind_ret]
  generalize k0_pay12 lanes v55 v58 (k0_pay86 v61) (k0_pay88 v66) (k0_pay89 v52) 0#32 1#32 n = v117 at hg ⊢
  generalize k0_pay13 lanes v55 v58 (k0_pay86 v61) (k0_pay88 v66) (k0_pay89 v52) 0#32 1#32 n = v118 at hg ⊢
  generalize k0_pay6 lanes v55 (k0_pay86 v61) 0#32 1#32 n = v96 at hg ⊢
  generalize k0_pay9 lanes v55 (k0_pay86 v61) 0#32 1#32 n = v108 at hg ⊢
  generalize k0_pay11 lanes v58 (k0_pay88 v66) (k0_pay89 v52) 0#32 1#32 n = v114 at hg ⊢
  generalize k0_pay7 lanes v58 (k0_pay88 v66) 0#32 1#32 n = v98 at hg ⊢
  generalize k0_pay8 lanes v55 (k0_pay86 v61) 0#32 1#32 n = v100 at hg ⊢
  have ha := fun c hc => chkOf (fun l => (hg.le l).1) c hc
  have hb := fun c hc => chkOf (fun l => (hg.le l).2.1) c hc
  have hc := fun c hc => chkOf (fun l => (hg.le l).2.2.1) c hc
  have hd := fun c hc => chkOf (fun l => (hg.le l).2.2.2) c hc
  have hval := fun c hc l => value_apply hg hf c hc l
  simp only [k0_part2_eq_skeleton, k0_part2_skel, k0_part3_eq_skeleton, k0_part3_skel,
    k0_part4_eq_skeleton, k0_part4_skel, k0_part5_eq_skeleton, k0_part5_skel, k0_part6_eq_skeleton, k0_part6_skel,
    k0_part7_eq_skeleton, k0_part7_skel, k0_part8_eq_skeleton, k0_part8_skel,
    Prog.lift, gather_bind, Prog.bind_op, Prog.bind_ret, Prog.pure_eq_ret]
  refine table_step d L (ha 0 (by omega)) (table_step d L (hb 0 (by omega)) (table_step d L (hc 0 (by omega)) (table_step d L (hd 0 (by omega)) ?_)))
  refine channel_step d L 0 1 rfl hn (off4_eq t1 t2 n) (fun l _ => hval 0 (by omega) l) ?_
  refine table_step d L (ha 1 (by omega)) (table_step d L (hb 1 (by omega)) (table_step d L (hc 1 (by omega)) (table_step d L (hd 1 (by omega)) ?_)))
  refine channel_step d L 1 2 rfl hn (off5_eq t1 t2 n) (fun l _ => hval 1 (by omega) l) ?_
  refine table_step d L (ha 2 (by omega)) (table_step d L (hb 2 (by omega)) (table_step d L (hc 2 (by omega)) (table_step d L (hd 2 (by omega)) ?_)))
  refine channel_step d L 2 3 rfl hn (off6_eq t1 t2 n) (fun l _ => hval 2 (by omega) l) ?_
  refine table_step d L (ha 3 (by omega)) (table_step d L (hb 3 (by omega)) (table_step d L (hc 3 (by omega)) (table_step d L (hd 3 (by omega)) ?_)))
  refine channel_step d L 3 4 rfl hn (off7_eq t1 t2 n) (fun l _ => hval 3 (by omega) l) ?_
  refine table_step d L (ha 4 (by omega)) (table_step d L (hb 4 (by omega)) (table_step d L (hc 4 (by omega)) (table_step d L (hd 4 (by omega)) ?_)))
  refine channel_step d L 4 5 rfl hn (off8_eq t1 t2 n) (fun l _ => hval 4 (by omega) l) ?_
  refine table_step d L (ha 5 (by omega)) (table_step d L (hb 5 (by omega)) (table_step d L (hc 5 (by omega)) (table_step d L (hd 5 (by omega)) ?_)))
  refine channel_step d L 5 6 rfl hn (off9_eq t1 t2 n) (fun l _ => hval 5 (by omega) l) ?_
  refine table_step d L (ha 6 (by omega)) (table_step d L (hb 6 (by omega)) (table_step d L (hc 6 (by omega)) (table_step d L (hd 6 (by omega)) ?_)))
  refine channel_step d L 6 7 rfl hn (off10_eq t1 t2 n) (fun l _ => hval 6 (by omega) l) ?_
  refine table_step d L (ha 7 (by omega)) (table_step d L (hb 7 (by omega)) (table_step d L (hc 7 (by omega)) (table_step d L (hd 7 (by omega)) ?_)))
  refine channel_step d L 7 8 rfl hn (off11_eq t1 t2 n) (fun l _ => hval 7 (by omega) l) ?_
  refine table_step d L (ha 8 (by omega)) (table_step d L (hb 8 (by omega)) (table_step d L (hc 8 (by omega)) (table_step d L (hd 8 (by omega)) ?_)))
  refine channel_step d L 8 9 rfl hn (off12_eq t1 t2 n) (fun l _ => hval 8 (by omega) l) ?_
  refine table_step d L (ha 9 (by omega)) (table_step d L (hb 9 (by omega)) (table_step d L (hc 9 (by omega)) (table_step d L (hd 9 (by omega)) ?_)))
  refine channel_step d L 9 10 rfl hn (off13_eq t1 t2 n) (fun l _ => hval 9 (by omega) l) ?_
  refine table_step d L (ha 10 (by omega)) (table_step d L (hb 10 (by omega)) (table_step d L (hc 10 (by omega)) (table_step d L (hd 10 (by omega)) ?_)))
  refine channel_step d L 10 11 rfl hn (off14_eq t1 t2 n) (fun l _ => hval 10 (by omega) l) ?_
  refine table_step d L (ha 11 (by omega)) (table_step d L (hb 11 (by omega)) (table_step d L (hc 11 (by omega)) (table_step d L (hd 11 (by omega)) ?_)))
  refine channel_step d L 11 12 rfl hn (off15_eq t1 t2 n) (fun l _ => hval 11 (by omega) l) ?_
  exact fupd_intro

end Group

end Cert.Proof.IdealRun

end
-- ==== Proof.IdealRegion.lean ====
/-
  The middle loop of a tile: one region of a block. Its five words are gathered from the tile's copy of the regions, then the
  thirteen groups of the innermost loop fill the region's row of the output buffer.
-/
module

public import proofs.«01_k».proof.Proof.IdealGroup

@[expose] public section

noncomputable section

namespace Cert.Proof.IdealRun

open Cert.KernelIdeal Cert.KernelIdeal.Gen Cert.RoiAlign
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-! ## The region's words -/

/-- The word of the regions' table that region `t2` of block `t1` starts from, and the same word of the four later columns. -/
def regionWord (t1 t2 : ℕ) : BitVec 32 := Scalar.addi (Scalar.muli (Scf.iv 0#32 1#32 t1) 8#32) (Scf.iv 0#32 1#32 t2)

theorem regionWord_eq : ∀ (t1 : Fin 64) (t2 : Fin 8), (regionWord t1.val t2.val).toNat = 8 * t1.val + t2.val := by decide +kernel

theorem regionWord_add (t1 : Fin 64) (t2 : Fin 8) (c : ℕ) (hc : c ≤ 2048) :
    (IntOp.addi (regionWord t1.val t2.val) (BitVec.ofNat 32 c)).toNat = c + (8 * t1.val + t2.val) := by
  unfold IntOp.addi
  have h := regionWord_eq t1 t2
  have h1 := t1.isLt
  have h2 := t2.isLt
  rw [BitVec.toNat_add, BitVec.toNat_ofNat, h, Nat.mod_eq_of_lt (by omega : c < 2 ^ 32), Nat.mod_eq_of_lt (by omega)]
  omega

/-- A gather whose lanes all name word `n` of the regions' table reads that word in every lane. -/
theorem region_gather {R : ℕ → F .f32} {g : Vec F S2560 .f32} (hg : ∀ x, g x = R (x 0).val) {n : ℕ} (w : IVec S16 32) (hw : ∀ l, (w l).toNat = n)
    (hidx : ∀ a x, ((![w] : Fin 1 → IVec S16 32) a x).toNat < S2560.size a) (l : S16.Idx) : loadIdx g ![w] hidx l = R n := by
  rw [show loadIdx g ![w] hidx l = g (idxAt _ hidx l) from rfl, hg, ← hw l]
  rfl

theorem region_chk {n : ℕ} (w : IVec S16 32) (hw : ∀ l, (w l).toNat = n) (hn : n < 2560) :
    ∀ a x, ((![w] : Fin 1 → IVec S16 32) a x).toNat < S2560.size a := by
  intro a x
  obtain rfl : a = 0 := Subsingleton.elim _ _
  exact (hw x).trans_lt hn

section Region

variable (d : Dev nD) (L : grid0.Coords)
variable (w2 : tabW.IsWhole) (w3 : roiW.IsWhole) (w4 : outW.IsWhole) (w5 : sT.IsWhole) (w6 : sR.IsWhole) (w7 : sO.IsWhole)
variable (a8 : DmaSems sig S2) (r0 r1 : DmaSems sig S_)

variable {α : Type}

/-- A program that has run. -/
theorem ret_step {P : sProp 𝕄} {Q : α → sProp 𝕄} {a : α} (h : P ⊢ Q a) :
    P ⊢ wp frame (wpE (defs₀ (F := F)) 𝒱₀ (thr d L) none) Set.univ (Prog.ret a) Q := by
  rw [wp_ret]
  exact h.trans fupd_intro

/-- What a program does not touch is held beside it. -/
theorem beside {P X : sProp 𝕄} {Q Q' : α → sProp 𝕄} {p : Prog (TpuEff nD τ sig (Elt F) Λ₀ (thr d L).2) α}
    (h : P ⊢ wp frame (wpE (defs₀ (F := F)) 𝒱₀ (thr d L) none) Set.univ p Q) (hQ : ∀ a, iprop(X ∗ Q a) ⊢ Q' a) :
    iprop(X ∗ P) ⊢ wp frame (wpE (defs₀ (F := F)) 𝒱₀ (thr d L) none) Set.univ p Q' :=
  (sep_mono_r h).trans ((wp_frame_l frame _ _).trans (wp_mono frame _ _ hQ))

theorem slab_mono {T R : ℕ → F .f32} {t r n c r' n' c' : ℕ} (h : ∀ f, Done T R t r n c f → Done T R t r' n' c' f) :
    slab d L T R t r n c ⊢ slab d L T R t r' n' c' := by
  unfold slab
  iintro ⟨%f, %hf, H⟩
  iexists f
  isplitr
  · ipureintro; exact h f hf
  · iexact H

/-- One region's run of the middle loop's body: the region's row is done, the table and the regions unchanged. -/
theorem region_step {T R : ℕ → F .f32} (hR : InRange kap R) (t1 : Fin k0_t1_loop.trips) (t2 : Fin k0_t2_loop.trips)
    {f : S49152.Idx → Elt F .f32} (hf : ∀ x, f x = T (x 0).val) {g : S2560.Idx → Elt F .f32} (hg : ∀ x, g x = R (x 0).val)
    (v33 acc : BitVec 32) :
    iprop(rPts d L g ∗ tPts d L f ∗ slab d L T R t1.val t2.val 0 0)
      ⊢ wp frame (wpE (defs₀ (F := F)) 𝒱₀ (thr d L) none) Set.univ
        (k0_t2_body (F := F) L tabW w2 roiW w3 outW w4 sT w5 sR w6 sO w7 a8 r0 r1 lanes t1 (Scf.iv 0#32 1#32 t1.val) v33 t2 acc)
        fun _ => iprop(rPts d L g ∗ tPts d L f ∗ slab d L T R t1.val (t2.val + 1) 0 0) := by
  have ht := lt1 t1
  have hr := lt2 t2
  have e0 : ∀ l : S16.Idx, ((broadcast S16 (regionWord t1.val t2.val) : IVec S16 32) l).toNat = 8 * t1.val + t2.val := fun _ => regionWord_eq ⟨t1.val, ht⟩ ⟨t2.val, hr⟩
  have e1 : ∀ l : S16.Idx, ((addi (broadcast S16 (regionWord t1.val t2.val)) (broadcast S16 (BitVec.ofNat 32 512)) : IVec S16 32) l).toNat = 512 + (8 * t1.val + t2.val) :=
    fun _ => regionWord_add ⟨t1.val, ht⟩ ⟨t2.val, hr⟩ 512 (by omega)
  have e2 : ∀ l : S16.Idx, ((addi (broadcast S16 (regionWord t1.val t2.val)) (broadcast S16 (BitVec.ofNat 32 1024)) : IVec S16 32) l).toNat = 1024 + (8 * t1.val + t2.val) :=
    fun _ => regionWord_add ⟨t1.val, ht⟩ ⟨t2.val, hr⟩ 1024 (by omega)
  have e3 : ∀ l : S16.Idx, ((addi (broadcast S16 (regionWord t1.val t2.val)) (broadcast S16 (BitVec.ofNat 32 1536)) : IVec S16 32) l).toNat = 1536 + (8 * t1.val + t2.val) :=
    fun _ => regionWord_add ⟨t1.val, ht⟩ ⟨t2.val, hr⟩ 1536 (by omega)
  have e4 : ∀ l : S16.Idx, ((addi (broadcast S16 (regionWord t1.val t2.val)) (broadcast S16 (BitVec.ofNat 32 2048)) : IVec S16 32) l).toNat = 2048 + (8 * t1.val + t2.val) :=
    fun _ => regionWord_add ⟨t1.val, ht⟩ ⟨t2.val, hr⟩ 2048 (by omega)
  unfold k0_t2_body
  simp only [Prog.lift, gather_bind, Prog.bind_op, Prog.bind_ret, Prog.pure_eq_ret]
  refine regions_step d L (region_chk _ e0 (by omega)) ?_
  refine regions_step d L (region_chk _ e1 (by omega)) ?_
  refine regions_step d L (region_chk _ e2 (by omega)) ?_
  refine regions_step d L (region_chk _ e3 (by omega)) ?_
  refine regions_step d L (region_chk _ e4 (by omega)) ?_
  have hv : RegionVecs R (8 * t1.val + t2.val) _ _ _ _ _ :=
    ⟨region_gather hg _ e0 (region_chk _ e0 (by omega)), region_gather hg _ e1 (region_chk _ e1 (by omega)),
     region_gather hg _ e2 (region_chk _ e2 (by omega)), region_gather hg _ e3 (region_chk _ e3 (by omega)),
     region_gather hg _ e4 (region_chk _ e4 (by omega))⟩
  refine loop_step d L (fun n => iprop(rPts d L g ∗ tPts d L f ∗ slab d L T R t1.val t2.val n 0)) .rfl ?_ ?_
  · intro n acc
    exact beside d L (group_step d L w2 w3 w4 w5 w6 w7 a8 r0 r1 hR t1 t2 hv hf v33 _ acc n)
      fun _ => sep_mono_r (sep_mono_r (slab_mono d L fun _ h => h.nextGroup (lt3 n)))
  · intro acc
    rw [trips3]
    exact ret_step d L (sep_mono_r (sep_mono_r (slab_mono d L fun _ h => h.nextRegion)))

end Region

end Cert.Proof.IdealRun

end
-- ==== Proof.IdealViews.lean ====
/-
  What a tile's copies move: its row of the feature table, a block of eight rows and 2352 columns of the result, and the window
  of an output buffer that the block is copied from. Each view's elements as a set of indices, and what a copy leaves.
-/
module

public import proofs.«01_k».proof.Proof.IdealRegion

@[expose] public section

noncomputable section

namespace Cert.Proof.IdealRun

open Cert.KernelIdeal Cert.KernelIdeal.Gen Cert.RoiAlign
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-! ## A tile's number, and the views of its copies -/

/-- The tile's number among the thirty-two. -/
def wid (L : grid0.Coords) : ℕ := 16 * (L 0).val + (L 1).val

theorem wid_lt (L : grid0.Coords) : wid L < 32 := by
  have h0 : (L 0).val < 2 := (L 0).isLt
  have h1 : (L 1).val < 16 := (L 1).isLt
  unfold wid
  omega

/-- The tile's row of the feature table. -/
abbrev tabRow (L : grid0.Coords) : Memref sig .scVector .hbm S49152 .f32 :=
  (tabW.slice (Rect.unit (s := S32x49152) (k0_off1 L) S1x49152.size (k0_off1_inb L)) (fun _ => rfl)).squeeze S49152 squeezes_S1x49152_S49152

/-- Block `t1` of the tile's columns of the result. -/
abbrev outBlk (L : grid0.Coords) (t1 : Fin k0_t1_loop.trips) : Memref sig .scVector .hbm S8x2352 .f32 :=
  outW.slice (Rect.unit (s := S512x75264) (k0_off17 L t1) S8x2352.size (k0_off17_inb L t1)) (fun _ => rfl)

/-- The window of the output buffer that block `t1` is copied from. -/
abbrev bufWin (t1 : Fin k0_t1_loop.trips) : Memref sig .scVector .vmem S8x2352 .f32 :=
  (sO.slice (Rect.unit (s := S2x8x2368) (k0_off16 t1) S1x8x2352.size (k0_off16_inb t1)) (fun _ => rfl)).squeeze S8x2352 squeezes_S1x8x2352_S8x2352

/-! ## Their elements -/

/-- Row `w` of the feature table. -/
def rowSet (w : ℕ) : Finset S32x49152.Idx := Finset.univ.filter fun x => (x 0).val = w
/-- Block `t` of tile `w`'s columns of the result. -/
def blockSet (w t : ℕ) : Finset S512x75264.Idx := Finset.univ.filter fun x => (x 1).val / 2352 = w ∧ (x 0).val / 8 = t
/-- The window of the output buffer of block `t`. -/
def winSet (t : ℕ) : Finset S2x8x2368.Idx := Finset.univ.filter fun y => (y 0).val = t % 2 ∧ (y 2).val < 2352
/-- The output buffers' words past the windows. -/
def padSet : Finset S2x8x2368.Idx := Finset.univ.filter fun y => 2352 ≤ (y 2).val

theorem mem_rowSet {w : ℕ} {x : S32x49152.Idx} : x ∈ rowSet w ↔ (x 0).val = w := by simp [rowSet]
theorem mem_blockSet {w t : ℕ} {x : S512x75264.Idx} : x ∈ blockSet w t ↔ (x 1).val / 2352 = w ∧ (x 0).val / 8 = t := by simp [blockSet]

theorem half_union (t : ℕ) : halfSet t = winSet t ∪ padSet := by
  ext y
  simp only [halfSet, winSet, padSet, Finset.mem_union, Finset.mem_filter, Finset.mem_univ, true_and]
  omega

theorem win_pad (t : ℕ) : Disjoint (winSet t) padSet := by
  rw [Finset.disjoint_left]
  intro y h h'
  have h := (Finset.mem_filter.mp h).2
  have h' := (Finset.mem_filter.mp h').2
  omega

theorem tabRow_set (L : grid0.Coords) : (tabRow L).view.set = rowSet (wid L) := by
  rw [show (tabRow L).view.set = (Rect.unit (s := S32x49152) (k0_off1 L) S1x49152.size (k0_off1_inb L)).set from
    (View.set_reshape _ _).trans (View.set_slice_whole _ _)]
  ext x
  rw [Rect.mem_set_unit (inb := k0_off1_inb L), k0_off1_eq]
  have h1 : (x 1).val < 49152 := (x 1).isLt
  rw [mem_rowSet, wid]
  constructor
  · intro h
    have h := h 0
    have ha : 16 * (L 0).val + (L 1).val ≤ (x 0).val := h.1
    have hb : (x 0).val < 16 * (L 0).val + (L 1).val + 1 := h.2
    omega
  · intro h a
    match a with
    | 0 => exact ⟨by show 16 * (L 0).val + (L 1).val ≤ (x 0).val; omega, by show (x 0).val < 16 * (L 0).val + (L 1).val + 1; omega⟩
    | 1 => exact ⟨by show 0 ≤ (x 1).val; omega, by show (x 1).val < 0 + 49152; omega⟩

theorem outBlk_set (L : grid0.Coords) (t1 : Fin k0_t1_loop.trips) : (outBlk L t1).view.set = blockSet (wid L) t1.val := by
  rw [show (outBlk L t1).view.set = (Rect.unit (s := S512x75264) (k0_off17 L t1) S8x2352.size (k0_off17_inb L t1)).set from
    View.set_slice_whole _ _]
  ext x
  rw [Rect.mem_set_unit (inb := k0_off17_inb L t1), k0_off17_eq]
  rw [mem_blockSet, wid]
  constructor
  · intro h
    have h0 := h 0
    have h1 := h 1
    have ha : 8 * t1.val ≤ (x 0).val := h0.1
    have hb : (x 0).val < 8 * t1.val + 8 := h0.2
    have hc : 37632 * (L 0).val + 2352 * (L 1).val ≤ (x 1).val := h1.1
    have hd : (x 1).val < 37632 * (L 0).val + 2352 * (L 1).val + 2352 := h1.2
    omega
  · intro h a
    match a with
    | 0 => exact ⟨by show 8 * t1.val ≤ (x 0).val; omega, by show (x 0).val < 8 * t1.val + 8; omega⟩
    | 1 => exact ⟨by show 37632 * (L 0).val + 2352 * (L 1).val ≤ (x 1).val; omega,
        by show (x 1).val < 37632 * (L 0).val + 2352 * (L 1).val + 2352; omega⟩

theorem bufWin_set (t1 : Fin k0_t1_loop.trips) : (bufWin t1).view.set = winSet t1.val := by
  rw [show (bufWin t1).view.set = (Rect.unit (s := S2x8x2368) (k0_off16 t1) S1x8x2352.size (k0_off16_inb t1)).set from
    (View.set_reshape _ _).trans (View.set_slice_whole _ _)]
  ext y
  rw [Rect.mem_set_unit (inb := k0_off16_inb t1), off16_eq]
  have hy : (y 1).val < 8 := (y 1).isLt
  simp only [winSet, Finset.mem_filter, Finset.mem_univ, true_and]
  constructor
  · intro h
    have h0 := h 0
    have h2 := h 2
    have ha : t1.val % 2 ≤ (y 0).val := h0.1
    have hb : (y 0).val < t1.val % 2 + 1 := h0.2
    have hd : (y 2).val < 0 + 2352 := h2.2
    omega
  · intro h a
    match a with
    | 0 => exact ⟨by show t1.val % 2 ≤ (y 0).val; omega, by show (y 0).val < t1.val % 2 + 1; omega⟩
    | 1 => exact ⟨by show 0 ≤ (y 1).val; omega, by show (y 1).val < 0 + 8; omega⟩
    | 2 => exact ⟨by show 0 ≤ (y 2).val; omega, by show (y 2).val < 0 + 2352; omega⟩

/-! ## What the copies leave -/

/-- The features of tile `w`, as words of its row. -/
def rowOf (Tab : S32x49152.Idx → Elt F .f32) (w n : ℕ) : F .f32 := Tab (ValueIdx.ix2 ⟨w % 32, by omega⟩ ⟨n % 49152, by omega⟩)
/-- The regions' words. -/
def wordOf (Roi : S2560.Idx → Elt F .f32) (n : ℕ) : F .f32 := Roi (ValueIdx.ix1 ⟨n % 2560, by omega⟩)

theorem wordOf_apply (Roi : S2560.Idx → Elt F .f32) (x : S2560.Idx) : Roi x = wordOf Roi (x 0).val := by
  refine congrArg Roi (funext fun a => ?_)
  match a with
  | 0 => exact Fin.ext (Nat.mod_eq_of_lt (x 0).isLt).symm

/-- The result's contents. -/
def outOf (Tab : S32x49152.Idx → Elt F .f32) (Roi : S2560.Idx → Elt F .f32) : S512x75264.Idx → Elt F .f32 := fun x =>
  value kap (rowOf Tab ((x 1).val / 2352)) (wordOf Roi) (x 0).val ((x 1).val % 2352 / 196) ((x 1).val % 2352 % 196 / 14) ((x 1).val % 2352 % 196 % 14)

/-- The tile's row, read word by word. -/
theorem tabRow_read (L : grid0.Coords) (Tab : S32x49152.Idx → Elt F .f32) (x : S49152.Idx) :
    (tabRow L).view.read (Elt F) Tab x = rowOf Tab (wid L) (x 0).val := by
  rw [View.read_apply]
  refine congrArg Tab ?_
  have hx : (x 0).val < 49152 := (x 0).isLt
  have hw := wid_lt L
  rw [show (tabRow L).view.emb x = (Rect.unit (s := S32x49152) (k0_off1 L) S1x49152.size (k0_off1_inb L)).emb
    (Shape.reshapeEquiv squeezes_S1x49152_S49152.numel_eq x) from rfl,
    Shape.reshapeEquiv_eq_of_rowMajor (y := (ValueIdx.ix2 (0 : Fin 1) (x 0) : S1x49152.Idx)) squeezes_S1x49152_S49152.numel_eq
      ((Shape.rowMajor_val_two _).trans (.trans (by show 0 * 49152 + (x 0).val = (x 0).val; omega) (Shape.rowMajor_val_one x).symm))]
  funext a
  have e := k0_off1_eq L
  match a with
  | 0 =>
    refine Fin.ext ?_
    show k0_off1 L 0 + 1 * 0 = wid L % 32
    rw [e]
    show 16 * (L 0).val + (L 1).val + 1 * 0 = wid L % 32
    unfold wid at *
    omega
  | 1 =>
    refine Fin.ext ?_
    show k0_off1 L 1 + 1 * (x 0).val = (x 0).val % 49152
    rw [e]
    show 0 + 1 * (x 0).val = (x 0).val % 49152
    omega

/-- A block copied out of a buffer whose eight regions are done holds the result's elements. -/
theorem outBlk_write (L : grid0.Coords) (t1 : Fin k0_t1_loop.trips) (Tab : S32x49152.Idx → Elt F .f32) (Roi : S2560.Idx → Elt F .f32)
    (O : S512x75264.Idx → Elt F .f32) {f : Slab F} (hf : Done (rowOf Tab (wid L)) (wordOf Roi) t1.val 8 0 0 f)
    (z : S512x75264.Idx) (hz : z ∈ blockSet (wid L) t1.val) :
    (outBlk L t1).view.write (Elt F) O ((bufWin t1).view.read (Elt F) f) Finset.univ z = outOf Tab Roi z := by
  rw [← outBlk_set] at hz
  obtain ⟨x, -, rfl⟩ := Finset.mem_map.mp hz
  rw [View.write_emb_of_mem _ _ (Finset.mem_univ x), View.read_apply]
  have h0 : (x 0).val < 8 := (x 0).isLt
  have h1 : (x 1).val < 2352 := (x 1).isLt
  have e0 : ((outBlk L t1).view.emb x 0).val = 8 * t1.val + (x 0).val := by
    show k0_off17 L t1 0 + 1 * (x 0).val = _
    rw [k0_off17_eq]
    show 8 * t1.val + 1 * (x 0).val = _
    omega
  have e1 : ((outBlk L t1).view.emb x 1).val = 2352 * wid L + (x 1).val := by
    show k0_off17 L t1 1 + 1 * (x 1).val = _
    rw [k0_off17_eq]
    show 37632 * (L 0).val + 2352 * (L 1).val + 1 * (x 1).val = _
    unfold wid
    omega
  have ey : (bufWin t1).view.emb x = ((ValueIdx.ix3 ⟨t1.val % 2, by omega⟩ (x 0) ⟨(x 1).val, by omega⟩ : S2x8x2368.Idx)) := by
    rw [show (bufWin t1).view.emb x = (Rect.unit (s := S2x8x2368) (k0_off16 t1) S1x8x2352.size (k0_off16_inb t1)).emb
      (Shape.reshapeEquiv squeezes_S1x8x2352_S8x2352.numel_eq x) from rfl,
      Shape.reshapeEquiv_eq_of_rowMajor (y := (ValueIdx.ix3 (0 : Fin 1) (x 0) (x 1) : S1x8x2352.Idx)) squeezes_S1x8x2352_S8x2352.numel_eq
        ((Shape.rowMajor_val_three _).trans (.trans (by show (0 * 8 + (x 0).val) * 2352 + (x 1).val = (x 0).val * 2352 + (x 1).val; omega)
          (Shape.rowMajor_val_two x).symm))]
    have e := off16_eq t1
    funext a
    refine Fin.ext ?_
    match a with
    | 0 => show k0_off16 t1 0 + 1 * 0 = t1.val % 2; rw [e]; try rfl
    | 1 => show k0_off16 t1 1 + 1 * (x 0).val = (x 0).val; rw [e]; show 0 + 1 * (x 0).val = _; omega
    | 2 => show k0_off16 t1 2 + 1 * (x 1).val = (x 1).val; rw [e]; show 0 + 1 * (x 1).val = _; omega
  have hv := hf ((bufWin t1).view.emb x) (by rw [ey]) (by rw [ey]; exact h1) (by rw [ey]; exact .inl h0)
  refine (show _ = f ((bufWin t1).view.emb x) from rfl).trans (hv.trans ?_)
  unfold outOf
  rw [ey, e0, e1]
  show value kap (rowOf Tab (wid L)) (wordOf Roi) (8 * t1.val + (x 0).val) ((x 1).val / 196) ((x 1).val % 196 / 14) ((x 1).val % 196 % 14) = _
  have d1 : (2352 * wid L + (x 1).val) / 2352 = wid L := by omega
  have d2 : (2352 * wid L + (x 1).val) % 2352 = (x 1).val := by omega
  rw [d1, d2]

/-! ## The semaphores of the two output buffers -/

/-- The semaphore of the output buffer of block `t`. -/
def slotSem (t : ℕ) : DmaSem sig :=
  ((cc0_scratch3.slice (Rect.unit (s := S2) ![t % 2] S1.size (by intro a; match a with | 0 => show t % 2 + 1 ≤ 2; omega))).squeeze S_ squeezes_S1_S_).sem

theorem slotSem_of {off : Fin 1 → ℕ} (t : ℕ) (h : off = ![t % 2]) (inb : ∀ a, off a + S1.size a ≤ S2.size a) :
    ((cc0_scratch3.slice (Rect.unit (s := S2) off S1.size inb)).squeeze S_ squeezes_S1_S_).sem = slotSem t := by
  subst h
  rfl

theorem slotSem_mod {t t' : ℕ} (h : t % 2 = t' % 2) : slotSem t = slotSem t' := by
  exact (slotSem_of t' (by rw [h]) _)

end Cert.Proof.IdealRun

end
-- ==== Proof.IdealTile.lean ====
/-
  A tile's task. The tile fetches its row of the features and the regions' words, then goes through sixty-four blocks of eight
  regions: a block is computed into one of two output buffers and copied out, and the buffer is used again two blocks later, after
  a wait for that copy. Afterwards the tile's columns of the result hold the result's elements.
-/
module

public import proofs.«01_k».proof.Proof.IdealViews

@[expose] public section

noncomputable section

namespace Cert.Proof.IdealRun

open Cert.KernelIdeal Cert.KernelIdeal.Gen Cert.RoiAlign
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-- Where the feature table, the regions' words and the result are. -/
abbrev tabLoc (d : Dev nD) : Loc nD τ sig := (SparseCore.T d).loc main_v31
abbrev roiLoc (d : Dev nD) : Loc nD τ sig := (SparseCore.T d).loc main_v26
abbrev outLoc (d : Dev nD) : Loc nD τ sig := (SparseCore.T d).loc main_v32

/-! ## The tile's columns, as the blocks go -/

/-- The blocks before `t - 2` of tile `w`'s columns: copied out, and waited for. -/
def doneSet (w t : ℕ) : Finset S512x75264.Idx := Finset.univ.filter fun x => (x 1).val / 2352 = w ∧ (x 0).val / 8 + 2 < t
/-- The blocks from `t` on: not reached yet. -/
def restSet (w t : ℕ) : Finset S512x75264.Idx := Finset.univ.filter fun x => (x 1).val / 2352 = w ∧ t ≤ (x 0).val / 8
/-- All of tile `w`'s columns. -/
def colSet (w : ℕ) : Finset S512x75264.Idx := Finset.univ.filter fun x => (x 1).val / 2352 = w

theorem mem_doneSet {w t : ℕ} {x : S512x75264.Idx} : x ∈ doneSet w t ↔ (x 1).val / 2352 = w ∧ (x 0).val / 8 + 2 < t := by simp [doneSet]
theorem mem_restSet {w t : ℕ} {x : S512x75264.Idx} : x ∈ restSet w t ↔ (x 1).val / 2352 = w ∧ t ≤ (x 0).val / 8 := by simp [restSet]
theorem mem_colSet {w : ℕ} {x : S512x75264.Idx} : x ∈ colSet w ↔ (x 1).val / 2352 = w := by simp [colSet]

theorem rest_zero (w : ℕ) : restSet w 0 = colSet w := by
  ext x; rw [mem_restSet, mem_colSet]; omega

theorem rest_next (w t : ℕ) : restSet w t = blockSet w t ∪ restSet w (t + 1) := by
  ext x; rw [Finset.mem_union, mem_restSet, mem_restSet, mem_blockSet]; omega

theorem block_rest (w t : ℕ) : Disjoint (blockSet w t) (restSet w (t + 1)) := by
  rw [Finset.disjoint_left]; intro x h h'; rw [mem_blockSet] at h; rw [mem_restSet] at h'; omega

theorem done_next (w t : ℕ) (h : 2 ≤ t) : doneSet w (t + 1) = doneSet w t ∪ blockSet w (t - 2) := by
  ext x; rw [Finset.mem_union, mem_doneSet, mem_doneSet, mem_blockSet]; omega

theorem done_block (w t : ℕ) (h : 2 ≤ t) : Disjoint (doneSet w t) (blockSet w (t - 2)) := by
  rw [Finset.disjoint_left]; intro x h h'; rw [mem_doneSet] at h; rw [mem_blockSet] at h'; omega

theorem done_small (w t t' : ℕ) (h : t ≤ 2) (h' : t' ≤ 2) : doneSet w t = doneSet w t' := by
  ext x; rw [mem_doneSet, mem_doneSet]; omega

theorem done_all (w : ℕ) : doneSet w 66 = colSet w := by
  ext x; rw [mem_doneSet, mem_colSet]
  have h : (x 0).val < 512 := (x 0).isLt
  omega

theorem win_mod {t t' : ℕ} (h : t % 2 = t' % 2) : winSet t = winSet t' := by
  unfold winSet; rw [h]

/-- From block two on, and only then, the kernel waits for a buffer. -/
theorem cond1_iff : ∀ t : Fin k0_t1_loop.trips, k0_cond1 t = 1#1 ↔ 2 ≤ t.val := by
  have h : ∀ t : Fin 64, k0_cond1 (Fin.cast trips1.symm t) = 1#1 ↔ 2 ≤ t.val := by decide +kernel
  exact fun t => h (Fin.cast trips1 t)

section Tile

variable (d : Dev nD) (L : grid0.Coords)
variable (Tab : S32x49152.Idx → Elt F .f32) (Roi : S2560.Idx → Elt F .f32) (O₀ : S512x75264.Idx → Elt F .f32)
variable (O : CellTallies nD τ sig (HIx 1)) (W : Waits sig (HIx 1))

/-- What a copy of a block credits its semaphore with. -/
abbrev NB : ℕ := (outBlk L ⟨0, by rw [trips1]; omega⟩).view.dmaCredit

/-- The waits so far are the given ones and waits at no handshake. -/
def owing : sProp 𝕄 := iprop(∃ W', ⌜∀ p ∈ W', p ∈ W ∨ p.2 = none⌝ ∗ owes (thr d L) O W')

/-- The buffer of block `t` free: its semaphore at zero, its window held. -/
def free (t : ℕ) : sProp 𝕄 :=
  iprop(semVal (thr d L, SemLoc.dma (slotSem t)) 0 ∗ ∃ f : Buf (Elt F) ((thr d L).loc cc0_scratch2), (thr d L).loc cc0_scratch2 ↦[winSet t]{fullShare} f)

/-- The buffer of block `t` with the copy of block `t - 2` under way. -/
def busy (t : ℕ) : sProp 𝕄 :=
  Transfers.Flight (countersEmb (U := UU)) (thr d L) (SemLoc.dma (slotSem t)) (none : HIx 1) (NB L)
    iprop((outLoc d ↦[blockSet (wid L) (t - 2)]{fullShare} (outOf Tab Roi : Buf (Elt F) (outLoc d)))
      ∗ ∃ f : Buf (Elt F) ((thr d L).loc cc0_scratch2), (thr d L).loc cc0_scratch2 ↦[winSet t]{fullShare} f)

/-- The buffer of block `t` before block `t` needs it. -/
def slotAt (t : ℕ) : sProp 𝕄 := if t < 2 then free d L t else busy d L Tab Roi t

/-- The wait for the buffer of block `t`. -/
theorem wait_step {α : Type} {Q : α → sProp 𝕄} {X : sProp 𝕄} (t : ℕ) (ht : 2 ≤ t) {sem : DmaSem sig} (hs : sem = slotSem t)
    {srcw : Memref sig .scVector .vmem S8x2352 .f32} {dstw : Memref sig .scVector .hbm S8x2352 .f32} {hsrc : srcw.view.WordExact} {hdst : dstw.view.WordExact}
    {k : PUnit → Prog (TpuEff nD τ sig (Elt F) Λ₀ (thr d L).2) α} (hN : dstw.view.dmaCredit = NB L)
    (hk : iprop(Transfers.MayWaits (thr d L) (none : HIx 1) O ∗ owing d L O W ∗ (outLoc d ↦[doneSet (wid L) (t + 1)]{fullShare} (outOf Tab Roi : Buf (Elt F) (outLoc d))) ∗ free d L t ∗ X)
      ⊢ wp frame (wpE (defs₀ (F := F)) 𝒱₀ (thr d L) none) Set.univ (k ⟨⟩) Q) :
    iprop(Transfers.MayWaits (thr d L) (none : HIx 1) O ∗ owing d L O W ∗ (outLoc d ↦[doneSet (wid L) t]{fullShare} (outOf Tab Roi : Buf (Elt F) (outLoc d))) ∗ slotAt d L Tab Roi t ∗ X)
      ⊢ wp frame (wpE (defs₀ (F := F)) 𝒱₀ (thr d L) none) Set.univ (.op (.waitDma2 sem srcw dstw hsrc hdst) k) Q := by
  subst hs
  rw [slotAt, if_neg (by omega)]
  unfold busy owing
  iintro ⟨#Hmw, ⟨%W', %hW', HO⟩, Hd, Hb, HX⟩
  iapply (Transfers.wp_waitLocalO (countersEmb (U := UU)) 𝒱₀ (thr d L) none (none : HIx 1) hN) $$ [Hb HO]
  · isplitl [Hb]; · iexact Hb
    isplitl [HO]; · iexact HO
    iapply (Transfers.MayWaits.elim (SemLoc.dma (slotSem t))) $$ Hmw
  iintro ⟨⟨Hblk, Hwin⟩, Hsem, HO⟩
  iapply hk
  isplitl []; · iexact Hmw
  isplitl [HO]
  · unfold owing
    iexists (insert (SemLoc.dma (slotSem t), (none : HIx 1)) W')
    isplitr
    · ipureintro
      intro p hp
      rcases Finset.mem_insert.mp hp with hp | hp
      · exact .inr (congrArg Prod.snd hp)
      · exact hW' p hp
    · iexact HO
  isplitl [Hd Hblk]
  · rw [done_next _ _ ht]
    iapply (pointsTo_union (done_block (wid L) t ht)).2
    isplitl [Hd]
    · iexact Hd
    · iexact Hblk
  isplitl [Hsem Hwin]
  · unfold free
    isplitl [Hsem]
    · iexact Hsem
    · iexact Hwin
  · iexact HX

/-- A block's computed buffer is copied out: the block is taken from those not reached yet, and the buffer is on its way to be free
    two blocks later. -/
theorem issue_step {α : Type} {Q : α → sProp 𝕄} {X : sProp 𝕄} (t1 : Fin k0_t1_loop.trips) {sem : DmaSem sig} (hs : sem = slotSem t1.val)
    {hsrc : (bufWin t1).view.WordExact} {hdst : (outBlk L t1).view.WordExact}
    {hsem : DmaTarget.Typed (nD := nD) .vmem (.dma sem) (.here (outBlk L t1) : DmaTarget nD τ sig (thr d L).2 .hbm S8x2352 .f32)}
    {k : PUnit → Prog (TpuEff nD τ sig (Elt F) Λ₀ (thr d L).2) α}
    (hk : iprop(slotAt d L Tab Roi (t1.val + 2) ∗ (outLoc d ↦[restSet (wid L) (t1.val + 1)]{fullShare} (O₀ : Buf (Elt F) (outLoc d)))
        ∗ (∃ f : Buf (Elt F) ((thr d L).loc cc0_scratch2), (thr d L).loc cc0_scratch2 ↦[padSet]{fullShare} f) ∗ X)
      ⊢ wp frame (wpE (defs₀ (F := F)) 𝒱₀ (thr d L) none) Set.univ (k ⟨⟩) Q) :
    iprop(semVal (thr d L, SemLoc.dma (slotSem t1.val)) 0 ∗ slab d L (rowOf Tab (wid L)) (wordOf Roi) t1.val 8 0 0
        ∗ (outLoc d ↦[restSet (wid L) t1.val]{fullShare} (O₀ : Buf (Elt F) (outLoc d))) ∗ X)
      ⊢ wp frame (wpE (defs₀ (F := F)) 𝒱₀ (thr d L) none) Set.univ
        (.op (.enqueueDma (bufWin t1) (.here (outBlk L t1)) (.dma sem) hsrc hdst hsem) k) Q := by
  subst hs
  unfold slab
  rw [rest_next, half_union]
  iintro ⟨Hsem, ⟨%f, %hf, Hs⟩, Ho, HX⟩
  ihave H2 := (pointsTo_union (win_pad t1.val)).1 $$ Hs
  icases H2 with ⟨Hw, Hp⟩
  ihave H3 := (pointsTo_union (block_rest (wid L) t1.val)).1 $$ Ho
  icases H3 with ⟨Hb, Hr⟩
  have hN : (outBlk L t1).view.amount (SemLoc.dma (slotSem t1.val)) = NB L := rfl
  have hN0 : 0 < NB L := View.dmaCredit_pos _ (by decide)
  iapply (Transfers.wp_dmaLocal (countersEmb (U := UU)) 𝒱₀ (thr d L) none (q := fullShare) (fs := f) (fd := O₀) (none : HIx 1) (NB L) hN hN0
    (subset_of_eq (outBlk_set L t1))) $$ [Hw Hb Hsem]
  · isplitl [Hw]
    · rw [bufWin_set]; iexact Hw
    isplitl [Hb]
    · iexact Hb
    · iexact Hsem
  iintro Hfl
  iapply hk
  isplitl [Hfl]
  · rw [slotAt, if_neg (by omega)]
    unfold busy
    rw [slotSem_mod (t := t1.val + 2) (t' := t1.val) (by omega)]
    iapply (Transfers.Flight_mono (countersEmb (U := UU)) ?_) $$ Hfl
    rw [Nat.add_sub_cancel, win_mod (t := t1.val + 2) (t' := t1.val) (by omega), bufWin_set]
    refine BIClass.sep_mono (Entails.of_eq (pointsTo_congr fun z hz => outBlk_write L t1 Tab Roi O₀ hf z hz)) ?_
    iintro H
    iexists f
    iexact H
  isplitl [Hr]
  · iexact Hr
  isplitl [Hp]
  · iexists f
    iexact Hp
  · iexact HX

/-- A free buffer, with the words past the windows, is a block's buffer with nothing computed. -/
theorem slab_start (t : ℕ) (T R : ℕ → F .f32) :
    iprop((∃ f : Buf (Elt F) ((thr d L).loc cc0_scratch2), (thr d L).loc cc0_scratch2 ↦[winSet t]{fullShare} f)
        ∗ ∃ f : Buf (Elt F) ((thr d L).loc cc0_scratch2), (thr d L).loc cc0_scratch2 ↦[padSet]{fullShare} f) ⊢ slab d L T R t 0 0 0 := by
  unfold slab
  rw [half_union]
  iintro ⟨⟨%f, Hw⟩, ⟨%g, Hp⟩⟩
  ihave H := (pointsTo_join (ℓ := (thr d L).loc cc0_scratch2) (win_pad t)) $$ [Hw Hp]
  · isplitl [Hw]
    · iexact Hw
    · iexact Hp
  iexists (padSet.piecewise g f)
  isplitr
  · ipureintro
    exact Done.start _
  · iexact H

/-- One block, its buffer free: the eight regions are computed into the buffer and the copy is issued. -/
theorem block_tail {X : sProp 𝕄} (hR : InRange kap (wordOf Roi)) (t1 : Fin k0_t1_loop.trips)
    {f : S49152.Idx → Elt F .f32} (hf : ∀ x, f x = rowOf Tab (wid L) (x 0).val) {g : S2560.Idx → Elt F .f32} (hg : ∀ x, g x = wordOf Roi (x 0).val)
    {w2 w3 w4 w5 w6 w7} (r0 r1 : DmaSems sig S_) (v33 : BitVec 32) {sem : DmaSem sig} (hs : sem = slotSem t1.val)
    {hsrc : (bufWin t1).view.WordExact} {hdst : (outBlk L t1).view.WordExact}
    {hsem : DmaTarget.Typed (nD := nD) .vmem (.dma sem) (.here (outBlk L t1) : DmaTarget nD τ sig (thr d L).2 .hbm S8x2352 .f32)} :
    iprop(rPts d L g ∗ tPts d L f ∗ free d L t1.val ∗ (∃ f : Buf (Elt F) ((thr d L).loc cc0_scratch2), (thr d L).loc cc0_scratch2 ↦[padSet]{fullShare} f)
        ∗ (outLoc d ↦[restSet (wid L) t1.val]{fullShare} (O₀ : Buf (Elt F) (outLoc d))) ∗ X)
      ⊢ wp frame (wpE (defs₀ (F := F)) 𝒱₀ (thr d L) none) Set.univ
        (Scf.Loop.for k0_t2_loop k0_t2_ok 0#32 (k0_t2_body (F := F) L tabW w2 roiW w3 outW w4 sT w5 sR w6 sO w7 cc0_scratch3 r0 r1 lanes t1 (Scf.iv 0#32 1#32 t1.val) v33)
          >>= fun _ => .op (.enqueueDma (bufWin t1) (.here (outBlk L t1)) (.dma sem) hsrc hdst hsem) fun _ => .ret (0#32 : BitVec 32))
        fun _ => iprop(slotAt d L Tab Roi (t1.val + 2) ∗ (outLoc d ↦[restSet (wid L) (t1.val + 1)]{fullShare} (O₀ : Buf (Elt F) (outLoc d)))
          ∗ (∃ f : Buf (Elt F) ((thr d L).loc cc0_scratch2), (thr d L).loc cc0_scratch2 ↦[padSet]{fullShare} f) ∗ rPts d L g ∗ tPts d L f ∗ X) := by
  refine loop_step d L (fun n => iprop((semVal (thr d L, SemLoc.dma (slotSem t1.val)) 0 ∗ (outLoc d ↦[restSet (wid L) t1.val]{fullShare} (O₀ : Buf (Elt F) (outLoc d))) ∗ X)
      ∗ rPts d L g ∗ tPts d L f ∗ slab d L (rowOf Tab (wid L)) (wordOf Roi) t1.val n 0 0)) ?_ ?_ ?_
  · unfold free
    iintro ⟨Hr, Ht, ⟨Hsem, Hw⟩, Hp, Ho, HX⟩
    isplitl [Hsem Ho HX]
    · isplitl [Hsem]; · iexact Hsem
      isplitl [Ho]; · iexact Ho
      iexact HX
    isplitl [Hr]; · iexact Hr
    isplitl [Ht]; · iexact Ht
    iapply (slab_start d L t1.val)
    isplitl [Hw]
    · iexact Hw
    · iexact Hp
  · intro n acc
    exact beside d L (region_step d L w2 w3 w4 w5 w6 w7 cc0_scratch3 r0 r1 hR t1 n hf hg v33 acc) fun _ => .rfl
  · intro acc
    rw [trips2]
    refine .trans ?_ (issue_step (X := iprop(rPts d L g ∗ tPts d L f ∗ X)) d L Tab Roi O₀ t1 hs (ret_step d L .rfl))
    iintro ⟨⟨Hsem, Ho, HX⟩, Hr, Ht, Hs⟩
    isplitl [Hsem]; · iexact Hsem
    isplitl [Hs]; · iexact Hs
    isplitl [Ho]; · iexact Ho
    isplitl [Hr]; · iexact Hr
    isplitl [Ht]; · iexact Ht
    iexact HX

/-- What holds before block `t`. -/
def blockInv (f : S49152.Idx → Elt F .f32) (g : S2560.Idx → Elt F .f32) (t : ℕ) : sProp 𝕄 :=
  iprop(Transfers.MayWaits (thr d L) (none : HIx 1) O ∗ owing d L O W ∗ (outLoc d ↦[doneSet (wid L) t]{fullShare} (outOf Tab Roi : Buf (Elt F) (outLoc d)))
    ∗ slotAt d L Tab Roi t ∗ slotAt d L Tab Roi (t + 1) ∗ rPts d L g ∗ tPts d L f
    ∗ (∃ f : Buf (Elt F) ((thr d L).loc cc0_scratch2), (thr d L).loc cc0_scratch2 ↦[padSet]{fullShare} f)
    ∗ (outLoc d ↦[restSet (wid L) t]{fullShare} (O₀ : Buf (Elt F) (outLoc d))))

/-- One block. -/
theorem block_step (hR : InRange kap (wordOf Roi)) (t1 : Fin k0_t1_loop.trips)
    {f : S49152.Idx → Elt F .f32} (hf : ∀ x, f x = rowOf Tab (wid L) (x 0).val) {g : S2560.Idx → Elt F .f32} (hg : ∀ x, g x = wordOf Roi (x 0).val)
    {w2 w3 w4 w5 w6 w7} (r0 r1 : DmaSems sig S_) (acc : BitVec 32) :
    blockInv d L Tab Roi O₀ O W f g t1.val
      ⊢ wp frame (wpE (defs₀ (F := F)) 𝒱₀ (thr d L) none) Set.univ
        (k0_t1_body (F := F) L tabW w2 roiW w3 outW w4 sT w5 sR w6 sO w7 cc0_scratch3 r0 r1 lanes t1 acc)
        fun _ => blockInv d L Tab Roi O₀ O W f g (t1.val + 1) := by
  have tail : ∀ v33 {sem : DmaSem sig} (hs : sem = slotSem t1.val) {hsrc : (bufWin t1).view.WordExact} {hdst : (outBlk L t1).view.WordExact}
      {hsem : DmaTarget.Typed (nD := nD) .vmem (.dma sem) (.here (outBlk L t1) : DmaTarget nD τ sig (thr d L).2 .hbm S8x2352 .f32)},
      iprop(Transfers.MayWaits (thr d L) (none : HIx 1) O ∗ owing d L O W ∗ (outLoc d ↦[doneSet (wid L) (t1.val + 1)]{fullShare} (outOf Tab Roi : Buf (Elt F) (outLoc d)))
        ∗ free d L t1.val ∗ slotAt d L Tab Roi (t1.val + 1) ∗ rPts d L g ∗ tPts d L f
        ∗ (∃ f : Buf (Elt F) ((thr d L).loc cc0_scratch2), (thr d L).loc cc0_scratch2 ↦[padSet]{fullShare} f)
        ∗ (outLoc d ↦[restSet (wid L) t1.val]{fullShare} (O₀ : Buf (Elt F) (outLoc d))))
      ⊢ wp frame (wpE (defs₀ (F := F)) 𝒱₀ (thr d L) none) Set.univ
        (Scf.Loop.for k0_t2_loop k0_t2_ok 0#32 (k0_t2_body (F := F) L tabW w2 roiW w3 outW w4 sT w5 sR w6 sO w7 cc0_scratch3 r0 r1 lanes t1 (Scf.iv 0#32 1#32 t1.val) v33)
          >>= fun _ => .op (.enqueueDma (bufWin t1) (.here (outBlk L t1)) (.dma sem) hsrc hdst hsem) fun _ => .ret (0#32 : BitVec 32))
        fun _ => blockInv d L Tab Roi O₀ O W f g (t1.val + 1) := by
    intro v33 sem hs hsrc hdst hsem
    refine .trans ?_ ((block_tail (X := iprop(Transfers.MayWaits (thr d L) (none : HIx 1) O ∗ owing d L O W
      ∗ (outLoc d ↦[doneSet (wid L) (t1.val + 1)]{fullShare} (outOf Tab Roi : Buf (Elt F) (outLoc d))) ∗ slotAt d L Tab Roi (t1.val + 1)))
      d L Tab Roi O₀ hR t1 hf hg r0 r1 v33 hs).trans (wp_mono frame _ _ fun _ => ?_))
    · iintro ⟨Hmw, HO, Hd, Hf, Hs, Hr, Ht, Hp, Ho⟩
      isplitl [Hr]; · iexact Hr
      isplitl [Ht]; · iexact Ht
      isplitl [Hf]; · iexact Hf
      isplitl [Hp]; · iexact Hp
      isplitl [Ho]; · iexact Ho
      isplitl [Hmw]; · iexact Hmw
      isplitl [HO]; · iexact HO
      isplitl [Hd]; · iexact Hd
      iexact Hs
    · unfold blockInv
      iintro ⟨Hs2, Ho, Hp, Hr, Ht, Hmw, HO, Hd, Hs⟩
      isplitl [Hmw]; · iexact Hmw
      isplitl [HO]; · iexact HO
      isplitl [Hd]; · iexact Hd
      isplitl [Hs]; · iexact Hs
      isplitl [Hs2]; · iexact Hs2
      isplitl [Hr]; · iexact Hr
      isplitl [Ht]; · iexact Ht
      isplitl [Hp]; · iexact Hp
      iexact Ho
  unfold k0_t1_body
  by_cases h : k0_cond1 t1 = 1#1
  · have h2 := (cond1_iff t1).mp h
    simp only [dif_pos h, Prog.lift, Prog.bind_op, Prog.bind_ret, Prog.pure_eq_ret]
    unfold blockInv
    exact wait_step d L Tab Roi O W t1.val h2 (slotSem_of _ (off3_eq t1) _) rfl (tail _ (slotSem_of _ (off18_eq t1) _))
  · have h2 : t1.val < 2 := Nat.lt_of_not_le fun h' => h ((cond1_iff t1).mpr h')
    simp only [dif_neg h, Prog.lift, Prog.bind_op, Prog.bind_ret, Prog.pure_eq_ret]
    refine .trans ?_ (tail _ (slotSem_of _ (off18_eq t1) _))
    unfold blockInv
    rw [show slotAt d L Tab Roi t1.val = free d L t1.val from if_pos h2, done_small (wid L) t1.val (t1.val + 1) (by omega) (by omega)]

end Tile

end Cert.Proof.IdealRun

end
-- ==== Proof.IdealTask.lean ====
/-
  A tile's whole task, from the payload the tile is handed and its own buffers and semaphores to the payload it hands back: two
  fetches with their waits, the blocks' loop, and the waits for the last two copies.
-/
module

public import proofs.«01_k».proof.Proof.IdealTile

@[expose] public section

noncomputable section

namespace Cert.Proof.IdealRun

open Cert.KernelIdeal Cert.KernelIdeal.Gen Cert.RoiAlign
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

section Task

variable (d : Dev nD) (L : grid0.Coords)
variable (Tab : S32x49152.Idx → Elt F .f32) (Roi : S2560.Idx → Elt F .f32) (O₀ : S512x75264.Idx → Elt F .f32)
variable (O : CellTallies nD τ sig (HIx 1)) (W : Waits sig (HIx 1))

/-- A copy into a whole buffer of the tile and the wait right after it: the buffer holds what the source reads. -/
theorem fetch_step {α : Type} {Q : α → sProp 𝕄} {X : sProp 𝕄} {s : Shape} {src : Memref sig .scVector .hbm s .f32} {dst : Memref sig .scVector .vmem s .f32}
    {sem : DmaSem sig} {hsrc : src.view.WordExact} {hdst : dst.view.WordExact}
    {hsem : DmaTarget.Typed (nD := nD) .hbm (.dma sem) (.here dst : DmaTarget nD τ sig (thr d L).2 .vmem s .f32)}
    {hsrc' : src.view.WordExact} {hdst' : dst.view.WordExact} (hs : 0 < s.numel)
    {k : PUnit → Prog (TpuEff nD τ sig (Elt F) Λ₀ (thr d L).2) α} {q : PosShare TreeShare}
    {fs : Buf (Elt F) (src.view.loc (thr d L))} {fd : Buf (Elt F) (dst.view.loc (thr d L))}
    (hk : iprop((src.view.loc (thr d L) ↦[src.view.set]{q} fs)
        ∗ (dst.view.loc (thr d L) ↦{fullShare} dst.view.write (Elt F) fd (src.view.read (Elt F) fs) Finset.univ)
        ∗ semVal (thr d L, SemLoc.dma sem) 0 ∗ Transfers.MayWaits (thr d L) (none : HIx 1) O ∗ owing d L O W ∗ X)
      ⊢ wp frame (wpE (defs₀ (F := F)) 𝒱₀ (thr d L) none) Set.univ (k ⟨⟩) Q) :
    iprop((src.view.loc (thr d L) ↦[src.view.set]{q} fs) ∗ (dst.view.loc (thr d L) ↦{fullShare} fd)
        ∗ semVal (thr d L, SemLoc.dma sem) 0 ∗ Transfers.MayWaits (thr d L) (none : HIx 1) O ∗ owing d L O W ∗ X)
      ⊢ wp frame (wpE (defs₀ (F := F)) 𝒱₀ (thr d L) none) Set.univ
        (.op (.enqueueDma src (.here dst) (.dma sem) hsrc hdst hsem) fun _ => .op (.waitDma2 sem src dst hsrc' hdst') k) Q := by
  unfold owing
  iintro ⟨Hs, Hd, Hsem, #Hmw, ⟨%W', %hW', HO⟩, HX⟩
  iapply (Transfers.wp_dmaLocal (countersEmb (U := UU)) 𝒱₀ (thr d L) none (q := q) (fs := fs) (fd := fd) (none : HIx 1) dst.view.dmaCredit rfl
    (View.dmaCredit_pos _ hs) (Finset.subset_univ _)) $$ [Hs Hd Hsem]
  · isplitl [Hs]; · iexact Hs
    isplitl [Hd]; · iexact Hd
    iexact Hsem
  iintro Hfl
  iapply (Transfers.wp_waitLocalO (countersEmb (U := UU)) 𝒱₀ (thr d L) none (none : HIx 1) rfl) $$ [Hfl HO]
  · isplitl [Hfl]; · iexact Hfl
    isplitl [HO]; · iexact HO
    iapply (Transfers.MayWaits.elim (SemLoc.dma sem)) $$ Hmw
  iintro ⟨⟨Hd, Hs⟩, Hsem, HO⟩
  iapply hk
  isplitl [Hs]; · iexact Hs
  isplitl [Hd]; · iexact Hd
  isplitl [Hsem]; · iexact Hsem
  isplitl []; · iexact Hmw
  isplitl [HO]
  · unfold owing
    iexists (insert (SemLoc.dma sem, (none : HIx 1)) W')
    isplitr
    · ipureintro
      intro p hp
      rcases Finset.mem_insert.mp hp with hp | hp
      · exact .inr (congrArg Prod.snd hp)
      · exact hW' p hp
    · iexact HO
  · iexact HX

/-- The two windows and the words past them are the whole pair of buffers. -/
theorem buf_union : (Finset.univ : Finset S2x8x2368.Idx) = winSet 0 ∪ (winSet 1 ∪ padSet) := by
  ext y
  have h : (y 0).val < 2 := (y 0).isLt
  simp only [winSet, padSet, Finset.mem_union, Finset.mem_filter, Finset.mem_univ, true_and, true_iff]
  omega

theorem win_rest : Disjoint (winSet 0) (winSet 1 ∪ padSet) := by
  rw [Finset.disjoint_left]
  intro y h h'
  simp only [winSet, padSet, Finset.mem_union, Finset.mem_filter, Finset.mem_univ, true_and] at h h'
  omega

/-- The pair of buffers, at some contents, in its three parts. -/
theorem buf_split :
    iprop(∃ f : Buf (Elt F) ((thr d L).loc cc0_scratch2), (thr d L).loc cc0_scratch2 ↦{fullShare} f)
      ⊢ (iprop((∃ f : Buf (Elt F) ((thr d L).loc cc0_scratch2), (thr d L).loc cc0_scratch2 ↦[winSet 0]{fullShare} f)
        ∗ (∃ f : Buf (Elt F) ((thr d L).loc cc0_scratch2), (thr d L).loc cc0_scratch2 ↦[winSet 1]{fullShare} f)
        ∗ (∃ f : Buf (Elt F) ((thr d L).loc cc0_scratch2), (thr d L).loc cc0_scratch2 ↦[padSet]{fullShare} f)) : sProp 𝕄) := by
  iintro ⟨%f, H⟩
  ihave H := (Entails.of_eq (show ((thr d L).loc cc0_scratch2 ↦{fullShare} f : sProp 𝕄) = (thr d L).loc cc0_scratch2 ↦[winSet 0 ∪ (winSet 1 ∪ padSet)]{fullShare} f
    from congrArg (fun S => ((thr d L).loc cc0_scratch2 ↦[S]{fullShare} f : sProp 𝕄)) buf_union)) $$ H
  ihave H := (pointsTo_union win_rest).1 $$ H
  icases H with ⟨H0, H⟩
  ihave H := (pointsTo_union (win_pad 1)).1 $$ H
  icases H with ⟨H1, H2⟩
  isplitl [H0]
  · iexists f
    iexact H0
  isplitl [H1]
  · iexists f
    iexact H1
  · iexists f
    iexact H2

/-- And back. -/
theorem buf_join :
    iprop((∃ f : Buf (Elt F) ((thr d L).loc cc0_scratch2), (thr d L).loc cc0_scratch2 ↦[winSet 0]{fullShare} f)
        ∗ (∃ f : Buf (Elt F) ((thr d L).loc cc0_scratch2), (thr d L).loc cc0_scratch2 ↦[winSet 1]{fullShare} f)
        ∗ (∃ f : Buf (Elt F) ((thr d L).loc cc0_scratch2), (thr d L).loc cc0_scratch2 ↦[padSet]{fullShare} f))
      ⊢ (iprop(∃ f : Buf (Elt F) ((thr d L).loc cc0_scratch2), (thr d L).loc cc0_scratch2 ↦{fullShare} f) : sProp 𝕄) := by
  iintro ⟨⟨%f0, H0⟩, ⟨%f1, H1⟩, ⟨%f2, H2⟩⟩
  ihave H := (pointsTo_join (ℓ := (thr d L).loc cc0_scratch2) (win_pad 1)) $$ [H1 H2]
  · isplitl [H1]
    · iexact H1
    · iexact H2
  ihave H := (pointsTo_join (ℓ := (thr d L).loc cc0_scratch2) win_rest) $$ [H0 H]
  · isplitl [H0]
    · iexact H0
    · iexact H
  iexists ((winSet 1 ∪ padSet).piecewise (padSet.piecewise f2 f1) f0)
  iapply (Entails.of_eq (show ((thr d L).loc cc0_scratch2 ↦[winSet 0 ∪ (winSet 1 ∪ padSet)]{fullShare} _ : sProp 𝕄) = (thr d L).loc cc0_scratch2 ↦{fullShare} _
    from congrArg (fun S => ((thr d L).loc cc0_scratch2 ↦[S]{fullShare} _ : sProp 𝕄)) buf_union.symm)) $$ H

/-- The task, over what it is handed and what it uses of its own. -/
theorem task_core (hR : InRange kap (wordOf Roi)) (q : PosShare TreeShare) :
    iprop(((tabLoc d ↦[rowSet (wid L)]{fullShare} (Tab : Buf (Elt F) (tabLoc d)))
        ∗ (roiLoc d ↦{q} (Roi : Buf (Elt F) (roiLoc d))) ∗ (outLoc d ↦[colSet (wid L)]{fullShare} (O₀ : Buf (Elt F) (outLoc d))))
        ∗ (∃ f, (thr d L).loc cc0_scratch0 ↦{fullShare} f) ∗ (∃ f, (thr d L).loc cc0_scratch1 ↦{fullShare} f) ∗ (∃ f, (thr d L).loc cc0_scratch2 ↦{fullShare} f)
        ∗ semVal (thr d L, SemLoc.dma (slotSem 0)) 0 ∗ semVal (thr d L, SemLoc.dma (slotSem 1)) 0
        ∗ semVal (thr d L, SemLoc.dma cc0_scoped0.sem) 0 ∗ semVal (thr d L, SemLoc.dma cc0_scoped1.sem) 0
        ∗ Transfers.MayWaits (thr d L) (none : HIx 1) O ∗ owing d L O W)
      ⊢ wp frame (wpE (defs₀ (F := F)) 𝒱₀ (thr d L) none) Set.univ
        (cc0__roi_align_sc (F := F) L tabW (Memref.isWhole_whole _) roiW (Memref.isWhole_whole _) outW (Memref.isWhole_whole _)
          sT (Memref.isWhole_whole _) sR (Memref.isWhole_whole _) sO (Memref.isWhole_whole _) cc0_scratch3 cc0_scoped0 cc0_scoped1)
        fun _ => iprop(((tabLoc d ↦[rowSet (wid L)]{fullShare} (Tab : Buf (Elt F) (tabLoc d)))
          ∗ (roiLoc d ↦{q} (Roi : Buf (Elt F) (roiLoc d))) ∗ (outLoc d ↦[colSet (wid L)]{fullShare} (outOf Tab Roi : Buf (Elt F) (outLoc d))))
          ∗ (∃ f, (thr d L).loc cc0_scratch0 ↦{fullShare} f) ∗ (∃ f, (thr d L).loc cc0_scratch1 ↦{fullShare} f) ∗ (∃ f, (thr d L).loc cc0_scratch2 ↦{fullShare} f)
          ∗ semVal (thr d L, SemLoc.dma (slotSem 0)) 0 ∗ semVal (thr d L, SemLoc.dma (slotSem 1)) 0
          ∗ semVal (thr d L, SemLoc.dma cc0_scoped0.sem) 0 ∗ semVal (thr d L, SemLoc.dma cc0_scoped1.sem) 0
          ∗ owing d L O W) := by
  simp only [cc0__roi_align_sc_eq_skeleton]
  unfold cc0__roi_align_sc_skel
  simp only [k0_part9_eq_skeleton]
  unfold k0_part9_skel
  simp only [Prog.lift, Prog.bind_op, Prog.bind_ret, Prog.pure_eq_ret, Prog.bind_assoc]
  iintro ⟨⟨Ht, Hr, Ho⟩, ⟨%f0, H0⟩, ⟨%f1, H1⟩, H2, Hm0, Hm1, Hm2, Hm3, Hmw, HO⟩
  iapply (fetch_step d L O W (src := tabRow L) (dst := sT) (q := fullShare) (fs := Tab) (fd := f0) (by decide)
    (X := iprop((roiLoc d ↦{q} (Roi : Buf (Elt F) (roiLoc d))) ∗ ((thr d L).loc cc0_scratch1 ↦{fullShare} f1) ∗ semVal (thr d L, SemLoc.dma cc0_scoped1.sem) 0
      ∗ (outLoc d ↦[colSet (wid L)]{fullShare} (O₀ : Buf (Elt F) (outLoc d)))
      ∗ (∃ f, (thr d L).loc cc0_scratch2 ↦{fullShare} f)
      ∗ semVal (thr d L, SemLoc.dma (slotSem 0)) 0 ∗ semVal (thr d L, SemLoc.dma (slotSem 1)) 0)) ?_) $$ [Ht Hr Ho H0 H1 H2 Hm0 Hm1 Hm2 Hm3 Hmw HO]
  rotate_left
  · rw [tabRow_set]
    isplitl [Ht]; · iexact Ht
    isplitl [H0]; · iexact H0
    isplitl [Hm2]; · iexact Hm2
    isplitl [Hmw]; · iexact Hmw
    isplitl [HO]; · iexact HO
    isplitl [Hr]; · iexact Hr
    isplitl [H1]; · iexact H1
    isplitl [Hm3]; · iexact Hm3
    isplitl [Ho]; · iexact Ho
    isplitl [H2]; · iexact H2
    isplitl [Hm0]; · iexact Hm0
    iexact Hm1
  generalize hf : sT.view.write (Elt F) f0 ((tabRow L).view.read (Elt F) Tab) Finset.univ = f
  have hf' : ∀ x, f x = rowOf Tab (wid L) (x 0).val := fun x =>
    (congrFun (hf.symm.trans (View.write_whole_univ _ _ _)) x).trans (tabRow_read L Tab x)
  iintro ⟨Ht, H0, Hm2, Hmw, HO, Hr, H1, Hm3, HX⟩
  iapply (fetch_step d L O W (src := roiW) (dst := sR) (q := q) (fs := Roi) (fd := f1) (by decide)
    (X := iprop(((tabRow L).view.loc (thr d L) ↦[(tabRow L).view.set]{fullShare} (Tab : Buf (Elt F) (tabLoc d))) ∗ ((thr d L).loc cc0_scratch0 ↦{fullShare} f)
      ∗ semVal (thr d L, SemLoc.dma cc0_scoped0.sem) 0
      ∗ (outLoc d ↦[colSet (wid L)]{fullShare} (O₀ : Buf (Elt F) (outLoc d)))
      ∗ (∃ f, (thr d L).loc cc0_scratch2 ↦{fullShare} f)
      ∗ semVal (thr d L, SemLoc.dma (slotSem 0)) 0 ∗ semVal (thr d L, SemLoc.dma (slotSem 1)) 0)) ?_) $$ [Ht H0 Hm2 Hmw HO Hr H1 Hm3 HX]
  rotate_left
  · rw [show roiW.view.set = Finset.univ from View.set_whole _]
    isplitl [Hr]; · iexact Hr
    isplitl [H1]; · iexact H1
    isplitl [Hm3]; · iexact Hm3
    isplitl [Hmw]; · iexact Hmw
    isplitl [HO]; · iexact HO
    isplitl [Ht]; · iexact Ht
    isplitl [H0]; · iexact H0
    isplitl [Hm2]; · iexact Hm2
    iexact HX
  generalize hg : sR.view.write (Elt F) f1 (roiW.view.read (Elt F) Roi) Finset.univ = g
  have hg' : ∀ x, g x = wordOf Roi (x 0).val := fun x =>
    (congrFun (hg.symm.trans (View.write_whole_univ _ _ _)) x).trans (wordOf_apply Roi x)
  refine loop_step d L (fun n => iprop(((roiW.view.loc (thr d L) ↦[roiW.view.set]{q} (Roi : Buf (Elt F) (roiLoc d)))
      ∗ ((tabRow L).view.loc (thr d L) ↦[(tabRow L).view.set]{fullShare} (Tab : Buf (Elt F) (tabLoc d)))
      ∗ semVal (thr d L, SemLoc.dma cc0_scoped0.sem) 0 ∗ semVal (thr d L, SemLoc.dma cc0_scoped1.sem) 0)
    ∗ blockInv d L Tab Roi O₀ O W f g n)) ?_ ?_ ?_
  · iintro ⟨Hr, H1, Hm3, Hmw, HO, Ht, H0, Hm2, Ho, H2, Hm0, Hm1⟩
    isplitl [Hr Ht Hm2 Hm3]
    · isplitl [Hr]; · iexact Hr
      isplitl [Ht]; · iexact Ht
      isplitl [Hm2]; · iexact Hm2
      iexact Hm3
    unfold blockInv
    rw [slotAt, if_pos (by omega), slotAt, if_pos (by omega), rest_zero]
    ihave H2 := (buf_split d L) $$ H2
    icases H2 with ⟨Hw0, Hw1, Hp⟩
    isplitl [Hmw]; · iexact Hmw
    isplitl [HO]; · iexact HO
    isplitl []
    · rw [show doneSet (wid L) 0 = ∅ by ext x; simp [mem_doneSet], pointsTo_empty]
      iempintro
    unfold free
    isplitl [Hm0 Hw0]
    · isplitl [Hm0]
      · iexact Hm0
      · iexact Hw0
    isplitl [Hm1 Hw1]
    · isplitl [Hm1]
      · iexact Hm1
      · iexact Hw1
    isplitl [H1]; · iexact H1
    isplitl [H0]; · iexact H0
    isplitl [Hp]; · iexact Hp
    iexact Ho
  · intro n acc
    exact beside d L (block_step d L Tab Roi O₀ O W hR n hf' hg' cc0_scoped0 cc0_scoped1 acc) fun _ => .rfl
  · intro acc
    rw [trips1]
    unfold blockInv
    refine .trans ?_ (wait_step d L Tab Roi O W 64 (by omega) (slotSem_of 64 rfl _) rfl
      (X := iprop(slotAt d L Tab Roi 65 ∗ rPts d L g ∗ tPts d L f
        ∗ (∃ f : Buf (Elt F) ((thr d L).loc cc0_scratch2), (thr d L).loc cc0_scratch2 ↦[padSet]{fullShare} f)
        ∗ (roiW.view.loc (thr d L) ↦[roiW.view.set]{q} (Roi : Buf (Elt F) (roiLoc d)))
        ∗ ((tabRow L).view.loc (thr d L) ↦[(tabRow L).view.set]{fullShare} (Tab : Buf (Elt F) (tabLoc d)))
        ∗ semVal (thr d L, SemLoc.dma cc0_scoped0.sem) 0 ∗ semVal (thr d L, SemLoc.dma cc0_scoped1.sem) 0)) ?_)
    · iintro ⟨⟨Hr, Ht, Hm2, Hm3⟩, Hmw, HO, Hd, Hs0, Hs1, H1, H0, Hp, -⟩
      isplitl [Hmw]; · iexact Hmw
      isplitl [HO]; · iexact HO
      isplitl [Hd]; · iexact Hd
      isplitl [Hs0]; · iexact Hs0
      isplitl [Hs1]; · iexact Hs1
      isplitl [H1]; · iexact H1
      isplitl [H0]; · iexact H0
      isplitl [Hp]; · iexact Hp
      isplitl [Hr]; · iexact Hr
      isplitl [Ht]; · iexact Ht
      isplitl [Hm2]; · iexact Hm2
      iexact Hm3
    refine .trans ?_ (wait_step d L Tab Roi O W 65 (by omega) (slotSem_of 65 rfl _) rfl
      (X := iprop(free d L 64 ∗ rPts d L g ∗ tPts d L f
        ∗ (∃ f : Buf (Elt F) ((thr d L).loc cc0_scratch2), (thr d L).loc cc0_scratch2 ↦[padSet]{fullShare} f)
        ∗ (roiW.view.loc (thr d L) ↦[roiW.view.set]{q} (Roi : Buf (Elt F) (roiLoc d)))
        ∗ ((tabRow L).view.loc (thr d L) ↦[(tabRow L).view.set]{fullShare} (Tab : Buf (Elt F) (tabLoc d)))
        ∗ semVal (thr d L, SemLoc.dma cc0_scoped0.sem) 0 ∗ semVal (thr d L, SemLoc.dma cc0_scoped1.sem) 0)) ?_)
    · iintro ⟨Hmw, HO, Hd, Hf0, Hs1, HX⟩
      isplitl [Hmw]; · iexact Hmw
      isplitl [HO]; · iexact HO
      isplitl [Hd]; · iexact Hd
      isplitl [Hs1]; · iexact Hs1
      isplitl [Hf0]; · iexact Hf0
      iexact HX
    refine ret_step d L ?_
    unfold free
    rw [slotSem_mod (t := 64) (t' := 0) rfl, slotSem_mod (t := 65) (t' := 1) rfl, win_mod (t := 64) (t' := 0) rfl, win_mod (t := 65) (t' := 1) rfl,
      done_all, tabRow_set, show roiW.view.set = Finset.univ from View.set_whole _]
    iintro ⟨-, HO, Hd, ⟨Hm1, Hw1⟩, ⟨Hm0, Hw0⟩, H1, H0, Hp, Hr, Ht, Hm2, Hm3⟩
    isplitl [Ht Hr Hd]
    · isplitl [Ht]; · iexact Ht
      isplitl [Hr]; · iexact Hr
      iexact Hd
    isplitl [H0]; · iexists f; iexact H0
    isplitl [H1]; · iexists g; iexact H1
    isplitl [Hw0 Hw1 Hp]
    · iapply (buf_join d L)
      isplitl [Hw0]; · iexact Hw0
      isplitl [Hw1]; · iexact Hw1
      iexact Hp
    isplitl [Hm0]; · iexact Hm0
    isplitl [Hm1]; · iexact Hm1
    isplitl [Hm2]; · iexact Hm2
    isplitl [Hm3]; · iexact Hm3
    iexact HO

end Task

end Cert.Proof.IdealRun

end
-- ==== Proof.IdealHost.lean ====
/-
  The host program around the call: the operations before it, as one list, and what the result of the call is reshaped to.
-/
module

public import proofs.«01_k».proof.Proof.IdealTask
public import Idealize.ShloMosaic.Lib.StableHlo.Run
public import Idealize.ShloMosaic.Lib.PointwiseCore

@[expose] public section

noncomputable section

namespace Cert.Proof.IdealRun

open Cert.KernelIdeal Cert.KernelIdeal.Gen Cert.RoiAlign
open Idealize.ShloMosaic
open Idealize.SL.Sem

variable {F : FTy → Type} [FloatOps F] [Named F]

/-- The host's operations before the call, in order. -/
def before : List (HloOp τ sig (Elt F)) := [
  StableHlo.unary main_arg2 main_v0 (sitofp .f32 : (⟨S_, .i32⟩ : BufTy).Contents (Elt F) → (⟨S_, .f32⟩ : BufTy).Contents (Elt F)),
  StableHlo.nullary main_cst (constant S_ .f32 0x42000000#32),
  StableHlo.binary main_cst main_v0 main_v1 (Host.divf : (⟨S_, .f32⟩ : BufTy).Contents (Elt F) → (⟨S_, .f32⟩ : BufTy).Contents (Elt F) → (⟨S_, .f32⟩ : BufTy).Contents (Elt F)),
  StableHlo.unary main_arg1 main_v2 ((extractStridedSlice S512x1 ![0, 0] · slices_S512x6_S512x1_0_0) : (⟨S512x6, .f32⟩ : BufTy).Contents (Elt F) → (⟨S512x1, .f32⟩ : BufTy).Contents (Elt F)),
  StableHlo.reshape main_v2 main_v3 (rfl : (.f32 : EltTy) = .f32) shapeCasts_S512x1_S512,
  StableHlo.unary main_arg1 main_v4 ((extractStridedSlice S512x1 ![0, 2] · slices_S512x6_S512x1_0_2) : (⟨S512x6, .f32⟩ : BufTy).Contents (Elt F) → (⟨S512x1, .f32⟩ : BufTy).Contents (Elt F)),
  StableHlo.reshape main_v4 main_v5 (rfl : (.f32 : EltTy) = .f32) shapeCasts_S512x1_S512,
  StableHlo.unary main_v1 main_v6 (broadcastInDim S512 ![] bcast_S_S512 : (⟨S_, .f32⟩ : BufTy).Contents (Elt F) → (⟨S512, .f32⟩ : BufTy).Contents (Elt F)),
  StableHlo.binary main_v5 main_v6 main_v7 (mulf : (⟨S512, .f32⟩ : BufTy).Contents (Elt F) → (⟨S512, .f32⟩ : BufTy).Contents (Elt F) → (⟨S512, .f32⟩ : BufTy).Contents (Elt F)),
  StableHlo.unary main_arg1 main_v8 ((extractStridedSlice S512x1 ![0, 3] · slices_S512x6_S512x1_0_3) : (⟨S512x6, .f32⟩ : BufTy).Contents (Elt F) → (⟨S512x1, .f32⟩ : BufTy).Contents (Elt F)),
  StableHlo.reshape main_v8 main_v9 (rfl : (.f32 : EltTy) = .f32) shapeCasts_S512x1_S512,
  StableHlo.unary main_v1 main_v10 (broadcastInDim S512 ![] bcast_S_S512 : (⟨S_, .f32⟩ : BufTy).Contents (Elt F) → (⟨S512, .f32⟩ : BufTy).Contents (Elt F)),
  StableHlo.binary main_v9 main_v10 main_v11 (mulf : (⟨S512, .f32⟩ : BufTy).Contents (Elt F) → (⟨S512, .f32⟩ : BufTy).Contents (Elt F) → (⟨S512, .f32⟩ : BufTy).Contents (Elt F)),
  StableHlo.unary main_arg1 main_v12 ((extractStridedSlice S512x1 ![0, 4] · slices_S512x6_S512x1_0_4) : (⟨S512x6, .f32⟩ : BufTy).Contents (Elt F) → (⟨S512x1, .f32⟩ : BufTy).Contents (Elt F)),
  StableHlo.reshape main_v12 main_v13 (rfl : (.f32 : EltTy) = .f32) shapeCasts_S512x1_S512,
  StableHlo.unary main_arg1 main_v14 ((extractStridedSlice S512x1 ![0, 2] · slices_S512x6_S512x1_0_2) : (⟨S512x6, .f32⟩ : BufTy).Contents (Elt F) → (⟨S512x1, .f32⟩ : BufTy).Contents (Elt F)),
  StableHlo.reshape main_v14 main_v15 (rfl : (.f32 : EltTy) = .f32) shapeCasts_S512x1_S512,
  StableHlo.binary main_v13 main_v15 main_v16 (subf : (⟨S512, .f32⟩ : BufTy).Contents (Elt F) → (⟨S512, .f32⟩ : BufTy).Contents (Elt F) → (⟨S512, .f32⟩ : BufTy).Contents (Elt F)),
  StableHlo.unary main_v1 main_v17 (broadcastInDim S512 ![] bcast_S_S512 : (⟨S_, .f32⟩ : BufTy).Contents (Elt F) → (⟨S512, .f32⟩ : BufTy).Contents (Elt F)),
  StableHlo.binary main_v16 main_v17 main_v18 (mulf : (⟨S512, .f32⟩ : BufTy).Contents (Elt F) → (⟨S512, .f32⟩ : BufTy).Contents (Elt F) → (⟨S512, .f32⟩ : BufTy).Contents (Elt F)),
  StableHlo.unary main_arg1 main_v19 ((extractStridedSlice S512x1 ![0, 5] · slices_S512x6_S512x1_0_5) : (⟨S512x6, .f32⟩ : BufTy).Contents (Elt F) → (⟨S512x1, .f32⟩ : BufTy).Contents (Elt F)),
  StableHlo.reshape main_v19 main_v20 (rfl : (.f32 : EltTy) = .f32) shapeCasts_S512x1_S512,
  StableHlo.unary main_arg1 main_v21 ((extractStridedSlice S512x1 ![0, 3] · slices_S512x6_S512x1_0_3) : (⟨S512x6, .f32⟩ : BufTy).Contents (Elt F) → (⟨S512x1, .f32⟩ : BufTy).Contents (Elt F)),
  StableHlo.reshape main_v21 main_v22 (rfl : (.f32 : EltTy) = .f32) shapeCasts_S512x1_S512,
  StableHlo.binary main_v20 main_v22 main_v23 (subf : (⟨S512, .f32⟩ : BufTy).Contents (Elt F) → (⟨S512, .f32⟩ : BufTy).Contents (Elt F) → (⟨S512, .f32⟩ : BufTy).Contents (Elt F)),
  StableHlo.unary main_v1 main_v24 (broadcastInDim S512 ![] bcast_S_S512 : (⟨S_, .f32⟩ : BufTy).Contents (Elt F) → (⟨S512, .f32⟩ : BufTy).Contents (Elt F)),
  StableHlo.binary main_v23 main_v24 main_v25 (mulf : (⟨S512, .f32⟩ : BufTy).Contents (Elt F) → (⟨S512, .f32⟩ : BufTy).Contents (Elt F) → (⟨S512, .f32⟩ : BufTy).Contents (Elt F)),
  StableHlo.nary ![main_v3, main_v7, main_v11, main_v18, main_v25] main_v26 (fun u => (concatenate S2560 0 [⟨S512, (u 0 : (⟨S512, .f32⟩ : BufTy).Contents (Elt F))⟩, ⟨S512, (u 1 : (⟨S512, .f32⟩ : BufTy).Contents (Elt F))⟩, ⟨S512, (u 2 : (⟨S512, .f32⟩ : BufTy).Contents (Elt F))⟩, ⟨S512, (u 3 : (⟨S512, .f32⟩ : BufTy).Contents (Elt F))⟩, ⟨S512, (u 4 : (⟨S512, .f32⟩ : BufTy).Contents (Elt F))⟩] concatenates_S512_S512_S512_S512_S512_S2560_d0 : (⟨S2560, .f32⟩ : BufTy).Contents (Elt F))),
  StableHlo.unary main_arg0 main_v27 ((transpose S4x32x32x384 [0, 2, 3, 1] · transposes_S4x384x32x32_S4x32x32x384_0_2_3_1) : (⟨S4x384x32x32, .f32⟩ : BufTy).Contents (Elt F) → (⟨S4x32x32x384, .f32⟩ : BufTy).Contents (Elt F)),
  StableHlo.reshape main_v27 main_v28 (rfl : (.f32 : EltTy) = .f32) shapeCasts_S4x32x32x384_S4096x384,
  StableHlo.reshape main_v28 main_v29 (rfl : (.f32 : EltTy) = .f32) shapeCasts_S4096x384_S4096x32x12,
  StableHlo.unary main_v29 main_v30 ((transpose S32x4096x12 [1, 0, 2] · transposes_S4096x32x12_S32x4096x12_1_0_2) : (⟨S4096x32x12, .f32⟩ : BufTy).Contents (Elt F) → (⟨S32x4096x12, .f32⟩ : BufTy).Contents (Elt F)),
  StableHlo.reshape main_v30 main_v31 (rfl : (.f32 : EltTy) = .f32) shapeCasts_S32x4096x12_S32x49152]

/-- The host's operation after the call. -/
def behind : HloOp τ sig (Elt F) := StableHlo.reshape main_v32 main_v33 (rfl : (.f32 : EltTy) = .f32) shapeCasts_S512x75264_S512x384x14x14

/-- @main is the operations before the call, the call, and the operation after it. -/
theorem main_eq (d : Dev nD) : main (F := F) d
    = (StableHlo.seq before >>= fun _ => (sc.run d 0 >>= fun _ => (hlo rfl behind (fun _ => .ret (⟨⟩ : PUnit)) >>= fun _ => pure ⟨⟩))) := by
  rw [StableHlo.seq_bind_seqK]; rfl

/-- The feature table, as the call takes it: one row per tile, holding the tile's twelve channels of every pixel. -/
def tabOf (x : FVec F S4x384x32x32 .f32) : FVec F S32x49152 .f32 :=
  shapeCast S32x49152 (transpose S32x4096x12 [1, 0, 2]
    (shapeCast S4096x32x12 (shapeCast S4096x384 (transpose S4x32x32x384 [0, 2, 3, 1] x transposes_S4x384x32x32_S4x32x32x384_0_2_3_1) shapeCasts_S4x32x32x384_S4096x384)
      shapeCasts_S4096x384_S4096x32x12) transposes_S4096x32x12_S32x4096x12_1_0_2) shapeCasts_S32x4096x12_S32x49152

/-- What the boxes are multiplied by: thirty-two over the image's height. -/
def invOf (h : IVec S_ 32) : FVec F S_ .f32 :=
  Host.divf (constant S_ .f32 0x42000000#32) (sitofp .f32 h)

/-- Column `k` of the boxes, by region. -/
def boxCol (x : FVec F S512x6 .f32) (k : ℕ) (hk : S512x6.Slices ![0, k] S512x1) : FVec F S512 .f32 :=
  shapeCast S512 (extractStridedSlice S512x1 ![0, k] x hk) shapeCasts_S512x1_S512

/-- The regions' words, as the call takes them: the five columns one after the other. -/
def roiOf (x : FVec F S512x6 .f32) (h : IVec S_ 32) : FVec F S2560 .f32 :=
  let inv : FVec F S512 .f32 := broadcastInDim S512 ![] bcast_S_S512 (invOf h)
  concatenate S2560 0 [⟨S512, boxCol x 0 slices_S512x6_S512x1_0_0⟩, ⟨S512, mulf (boxCol x 2 slices_S512x6_S512x1_0_2) inv⟩,
    ⟨S512, mulf (boxCol x 3 slices_S512x6_S512x1_0_3) inv⟩,
    ⟨S512, mulf (subf (boxCol x 4 slices_S512x6_S512x1_0_4) (boxCol x 2 slices_S512x6_S512x1_0_2)) inv⟩,
    ⟨S512, mulf (subf (boxCol x 5 slices_S512x6_S512x1_0_5) (boxCol x 3 slices_S512x6_S512x1_0_3)) inv⟩]
    concatenates_S512_S512_S512_S512_S512_S2560_d0

theorem before_fresh : ∀ op ∈ before (F := F), op.fresh = ∅ :=
  List.forall_iff_forall_mem.mp (StableHlo.forall_fresh_of_map rfl)

theorem before_bufs : ∀ op ∈ before (F := F), op.bufs ⊆ StableHlo.tcRefs τ sig := by
  unfold before; simp

theorem tab_after (V : Valuation τ sig (Elt F)) :
    StableHlo.after before V (Proc.devRef .tc main_v31) = tabOf (V (Proc.devRef .tc main_arg0)) := by
  unfold before tabOf
  after_results_simp
  rfl

theorem roi_after (V : Valuation τ sig (Elt F)) :
    StableHlo.after before V (Proc.devRef .tc main_v26) = roiOf (V (Proc.devRef .tc main_arg1)) (V (Proc.devRef .tc main_arg2)) := by
  unfold before roiOf
  after_results_simp
  rfl

/-- The buffers the operations before the call write. -/
def written : List (Ref sig .tc) :=
  [main_v0, main_cst, main_v1, main_v2, main_v3, main_v4, main_v5, main_v6, main_v7, main_v8, main_v9, main_v10, main_v11, main_v12, main_v13,
    main_v14, main_v15, main_v16, main_v17, main_v18, main_v19, main_v20, main_v21, main_v22, main_v23, main_v24, main_v25, main_v26, main_v27,
    main_v28, main_v29, main_v30, main_v31]

/-- The operations before the call leave every other buffer as it was. -/
theorem kept_after {r : Ref sig .tc} (V : Valuation τ sig (Elt F)) (h : r ∉ written) :
    StableHlo.after before V (Proc.devRef .tc r) = V (Proc.devRef .tc r) :=
  StableHlo.after_of_writes_sub before V (W := written) (StableHlo.forall_writes_sub_of_map rfl) h

theorem boxCol_apply (x : FVec F S512x6 .f32) (k : ℕ) (hk : S512x6.Slices ![0, k] S512x1) (hk6 : k < 6) (i : Fin 512) :
    boxCol x k hk (ix1 i) = x (ix2 i ⟨k, hk6⟩) := by
  pointwise [boxCol]

/-- A tile's row holds, twelve words to a pixel, the tile's channels of the images' pixels in order. -/
theorem tabOf_apply (x : FVec F S4x384x32x32 .f32) (w : Fin 32) (n : Fin 49152) :
    tabOf x (ix2 w n) = x (ix4 ⟨n.val / 12 / 1024, by omega⟩ ⟨w.val * 12 + n.val % 12, by omega⟩
      ⟨n.val / 12 / 32 % 32, by omega⟩ ⟨n.val / 12 % 32, by omega⟩) := by
  pointwise [tabOf]

/-- The multiplier, a word. -/
def inv (h : IVec S_ 32) : F .f32 := FloatOps.hostDivf (FloatOps.ofBits .f32 0x42000000#32) (FloatOps.sitofp .f32 (h ix0))

/-- Five columns one after the other, read in one of them. -/
theorem five (a : Fin 5 → FVec F S512 .f32) (k : Fin 5) (m : Fin 512) (n : Fin 2560) (h : n.val = 512 * k.val + m.val) :
    concatenate S2560 0 [⟨S512, a 0⟩, ⟨S512, a 1⟩, ⟨S512, a 2⟩, ⟨S512, a 3⟩, ⟨S512, a 4⟩]
      concatenates_S512_S512_S512_S512_S512_S2560_d0 (ix1 n) = a k (ix1 m) := by
  refine concatenate_apply_piece (t := S2560) 0 [⟨S512, a 0⟩, ⟨S512, a 1⟩, ⟨S512, a 2⟩, ⟨S512, a 3⟩, ⟨S512, a 4⟩]
    concatenates_S512_S512_S512_S512_S512_S2560_d0 (ix1 n) k.val k.isLt S512 (a k) ?_ rfl (512 * k.val) ?_ (ix1 m) ?_ h.symm
  · match k with
    | 0 => rfl
    | 1 => rfl
    | 2 => rfl
    | 3 => rfl
    | 4 => rfl
  · match k with
    | 0 => rfl
    | 1 => rfl
    | 2 => rfl
    | 3 => rfl
    | 4 => rfl
  · intro b hb
    match b with
    | ⟨0, _⟩ => exact absurd rfl hb

/-- The regions' words: column `k` at region `m`. -/
theorem roiOf_apply (x : FVec F S512x6 .f32) (h : IVec S_ 32) (k : Fin 5) (m : Fin 512) (n : Fin 2560) (hn : n.val = 512 * k.val + m.val) :
    roiOf x h (ix1 n) = (![x (ix2 m 0), FloatOps.mulf (x (ix2 m 2)) (inv h), FloatOps.mulf (x (ix2 m 3)) (inv h),
      FloatOps.mulf (FloatOps.subf (x (ix2 m 4)) (x (ix2 m 2))) (inv h),
      FloatOps.mulf (FloatOps.subf (x (ix2 m 5)) (x (ix2 m 3))) (inv h)] : Fin 5 → F .f32) k := by
  unfold roiOf
  refine (five ![boxCol x 0 slices_S512x6_S512x1_0_0, mulf (boxCol x 2 slices_S512x6_S512x1_0_2) (broadcastInDim S512 ![] bcast_S_S512 (invOf h)),
    mulf (boxCol x 3 slices_S512x6_S512x1_0_3) (broadcastInDim S512 ![] bcast_S_S512 (invOf h)),
    mulf (subf (boxCol x 4 slices_S512x6_S512x1_0_4) (boxCol x 2 slices_S512x6_S512x1_0_2)) (broadcastInDim S512 ![] bcast_S_S512 (invOf h)),
    mulf (subf (boxCol x 5 slices_S512x6_S512x1_0_5) (boxCol x 3 slices_S512x6_S512x1_0_3)) (broadcastInDim S512 ![] bcast_S_S512 (invOf h))]
    k m n hn).trans ?_
  have hi (i : S512.Idx) : broadcastInDim S512 ![] bcast_S_S512 (invOf h) i = inv (F := F) h := by pointwise [invOf, inv]
  match k with
  | 0 => exact boxCol_apply x 0 slices_S512x6_S512x1_0_0 (by decide) m
  | 1 => exact congrArg₂ _ (boxCol_apply x 2 slices_S512x6_S512x1_0_2 (by decide) m) (hi _)
  | 2 => exact congrArg₂ _ (boxCol_apply x 3 slices_S512x6_S512x1_0_3 (by decide) m) (hi _)
  | 3 => exact congrArg₂ _ (congrArg₂ _ (boxCol_apply x 4 slices_S512x6_S512x1_0_4 (by decide) m) (boxCol_apply x 2 slices_S512x6_S512x1_0_2 (by decide) m)) (hi _)
  | 4 => exact congrArg₂ _ (congrArg₂ _ (boxCol_apply x 5 slices_S512x6_S512x1_0_5 (by decide) m) (boxCol_apply x 3 slices_S512x6_S512x1_0_3 (by decide) m)) (hi _)

end Cert.Proof.IdealRun
end
-- ==== Proof.IdealLaunch.lean ====
/-
  The launch: what the call hands to each of the thirty-two tiles and takes back, and the program's run. A tile takes its row of the
  feature table, a read share of the regions' words and its columns of the result; it hands back its columns at the result's elements.
-/
module

public import proofs.«01_k».proof.Proof.IdealHost

@[expose] public section

noncomputable section

namespace Cert.Proof.IdealRun

open Cert.KernelIdeal Cert.KernelIdeal.Gen Cert.RoiAlign
open Idealize.ShloMosaic
open Idealize.ShloMosaic.StableHlo (held held_sub_split held_congr wp_hlo_within wp_seq)
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop pointsTo_toks_split)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## What the call is given -/

/-- The buffers at the launch, and after the operations before the call. -/
abbrev V0 (d : Dev nD) : Valuation τ sig (Elt F) := fun b => m (d, b)
abbrev V1 (d : Dev nD) : Valuation τ sig (Elt F) := StableHlo.after before (V0 m d)

/-- The call's feature table, its regions' words, and the result's buffer before and after. -/
def tabAt (d : Dev nD) : S32x49152.Idx → Elt F .f32 := V1 m d (Proc.devRef .tc main_v31)
def roiAt (d : Dev nD) : S2560.Idx → Elt F .f32 := V1 m d (Proc.devRef .tc main_v26)
def outAt (d : Dev nD) : S512x75264.Idx → Elt F .f32 := V1 m d (Proc.devRef .tc main_v32)
def resAt (d : Dev nD) : S512x75264.Idx → Elt F .f32 := outOf (tabAt m d) (roiAt m d)

/-- SparseCore `c`'s rows of the table and columns of the result: those of its sixteen tiles. -/
def rowsSet (c : ℕ) : Finset S32x49152.Idx := Finset.univ.filter fun x => (x 0).val / 16 = c
def colsSet (c : ℕ) : Finset S512x75264.Idx := Finset.univ.filter fun x => (x 1).val / 2352 / 16 = c

theorem mem_rowsSet {c : ℕ} {x : S32x49152.Idx} : x ∈ rowsSet c ↔ (x 0).val / 16 = c := by simp [rowsSet]
theorem mem_colsSet {c : ℕ} {x : S512x75264.Idx} : x ∈ colsSet c ↔ (x 1).val / 2352 / 16 = c := by simp [colsSet]

/-- The share of the regions' words a SparseCore has, and a tile of it. -/
def coreShare (c : ℕ) : PosShare TreeShare := Transfers.shareTokN fullShare c
def tileShare (c i : ℕ) : PosShare TreeShare := Transfers.shareTokN (coreShare c) i

/-- What SparseCore `c` takes of a call, and what it hands back. -/
def coreIn (d : Dev nD) (c : ℕ) : sProp 𝕄 :=
  iprop((tabLoc d ↦[rowsSet c]{fullShare} (tabAt m d : Buf (Elt F) (tabLoc d))) ∗ (roiLoc d ↦{coreShare c} (roiAt m d : Buf (Elt F) (roiLoc d)))
    ∗ (outLoc d ↦[colsSet c]{fullShare} (outAt m d : Buf (Elt F) (outLoc d))))
def coreOut (d : Dev nD) (c : ℕ) : sProp 𝕄 := iprop(outLoc d ↦[colsSet c]{fullShare} (resAt m d : Buf (Elt F) (outLoc d)))

/-- What tile `i` of SparseCore `c` takes, and what it hands back. -/
def tileIn (d : Dev nD) (c i : ℕ) : sProp 𝕄 :=
  iprop((tabLoc d ↦[rowSet (16 * c + i)]{fullShare} (tabAt m d : Buf (Elt F) (tabLoc d)))
    ∗ (roiLoc d ↦{tileShare c i} (roiAt m d : Buf (Elt F) (roiLoc d)))
    ∗ (outLoc d ↦[colSet (16 * c + i)]{fullShare} (outAt m d : Buf (Elt F) (outLoc d))))
def tileOut (d : Dev nD) (c i : ℕ) : sProp 𝕄 := iprop(outLoc d ↦[colSet (16 * c + i)]{fullShare} (resAt m d : Buf (Elt F) (outLoc d)))

instance (d : Dev nD) (c : ℕ) : BI.Storable (upEmb : UEmb _ 𝕄) (coreIn m d c) := by unfold coreIn; infer_instance
instance (d : Dev nD) (c : ℕ) : BI.Storable (upEmb : UEmb _ 𝕄) (coreOut m d c) := by unfold coreOut; infer_instance
instance (d : Dev nD) (c i : ℕ) : BI.Storable (upEmb : UEmb _ 𝕄) (tileIn m d c i) := by unfold tileIn; infer_instance
instance (d : Dev nD) (c i : ℕ) : BI.Storable (upEmb : UEmb _ 𝕄) (tileOut m d c i) := by unfold tileOut; infer_instance

def P : (K (F := F)).Pay (nD := nD) (Val := Elt F) (Name := ℕ) (U := UU) where
  st := fun _ d c => coreIn m d c.val
  dn := fun _ d c => coreOut m d c.val
  go := fun _ d c i => tileIn m d c.val i.val
  td := fun _ d c i => tileOut m d c.val i.val
  x := fun _ _ => iprop(emp)

instance P_storable : (P (F := F) m).IsStorable where
  st _ d c := (inferInstance : BI.Storable (upEmb : UEmb _ 𝕄) (coreIn m d c.val))
  dn _ d c := (inferInstance : BI.Storable (upEmb : UEmb _ 𝕄) (coreOut m d c.val))
  go _ d c i := (inferInstance : BI.Storable (upEmb : UEmb _ 𝕄) (tileIn m d c.val i.val))
  td _ d c i := (inferInstance : BI.Storable (upEmb : UEmb _ 𝕄) (tileOut m d c.val i.val))

/-! ## A tile's task, from what the launch deals it -/

section Tile

variable (d : Dev nD) (L : grid0.Coords)

abbrev cell (s : DmaSem sig) : GSem nD τ sig := (thr d L, SemLoc.dma s)

omit [FloatOps F] [Named F] in
theorem slot_ne : (cell d L (slotSem 1) ≠ cell d L (slotSem 0) ∧ cell d L cc0_scoped0.sem ≠ cell d L (slotSem 0) ∧ cell d L cc0_scoped1.sem ≠ cell d L (slotSem 0))
    ∧ (cell d L cc0_scoped0.sem ≠ cell d L (slotSem 1) ∧ cell d L cc0_scoped1.sem ≠ cell d L (slotSem 1)) ∧ cell d L cc0_scoped1.sem ≠ cell d L cc0_scoped0.sem := by
  have h {s s' : DmaSem sig} (h : s ≠ s') : cell d L s ≠ cell d L s' := fun e => h (SemLoc.dma.inj (Prod.mk.inj e).2)
  refine ⟨⟨h ?_, h ?_, h ?_⟩, ⟨h ?_, h ?_⟩, h ?_⟩ <;> decide +kernel

omit [FloatOps F] [Named F] in
/-- The four DMA semaphores are among the tile's own: they are them, and the rest. -/
theorem ownSems0_V : ∃ R : sProp 𝕄, (ownSems0 (thr d L) : sProp 𝕄)
      = iprop(semVal (cell d L (slotSem 0)) 0 ∗ semVal (cell d L (slotSem 1)) 0 ∗ semVal (cell d L cc0_scoped0.sem) 0
          ∗ semVal (cell d L cc0_scoped1.sem) 0 ∗ R) := by
  have own (s : DmaSem sig) (hs : (SemLoc.dma s : SemLoc sig).isScoped .scVector = true) : cell d L s ∈ ownCells (thr d L) :=
    (mem_ownCells (g := cell d L s)).mpr ⟨rfl, hs⟩
  obtain ⟨⟨h1, h2, h3⟩, ⟨h4, h5⟩, h6⟩ := slot_ne d L
  refine ⟨bigSep (((((ownCells (thr d L)).erase (cell d L (slotSem 0))).erase (cell d L (slotSem 1))).erase (cell d L cc0_scoped0.sem)).erase
    (cell d L cc0_scoped1.sem)) fun g => semVal g 0, ?_⟩
  unfold SparseCore.Cfg.ownSems0
  rw [SparseCore.bigSep_erase' (own (slotSem 0) (by decide +kernel)),
    SparseCore.bigSep_erase' (Finset.mem_erase.mpr ⟨h1, own (slotSem 1) (by decide +kernel)⟩),
    SparseCore.bigSep_erase' (Finset.mem_erase.mpr ⟨h4, Finset.mem_erase.mpr ⟨h2, own cc0_scoped0.sem (by decide +kernel)⟩⟩),
    SparseCore.bigSep_erase' (Finset.mem_erase.mpr ⟨h6, Finset.mem_erase.mpr ⟨h5, Finset.mem_erase.mpr ⟨h3, own cc0_scoped1.sem (by decide +kernel)⟩⟩⟩)]

omit [FloatOps F] [Named F] in
/-- The three scratch buffers are among the tile's own: they are them, at some contents, and the rest. -/
theorem ownBufs_V : ∃ R : sProp 𝕄, (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ R) := by
  have own (r : Ref sig .scVector) (h : ((thr d L).2.devRef r).owner = .proc (thr d L).2) : (thr d L).2.devRef r ∈ ownRefs (τ := τ) (thr d L).2 :=
    SparseCore.Cfg.mem_ownRefs_of_owner h
  have ne {r s : Ref sig .scVector} (h : r ≠ s) : (thr d L).2.devRef r ≠ (thr d L).2.devRef s := fun e => h (Proc.devRef_injective _ e)
  refine ⟨bigSep ((((ownRefs (τ := τ) (thr d L).2).erase ((thr d L).2.devRef cc0_scratch0)).erase ((thr d L).2.devRef cc0_scratch1)).erase
    ((thr d L).2.devRef cc0_scratch2)) fun b => iprop(∃ f, ((d, b) : Loc nD τ sig) ↦{fullShare} f), ?_⟩
  unfold SparseCore.Cfg.ownBufs
  refine (SparseCore.bigSep_erase' (own cc0_scratch0 rfl)).trans ?_
  rw [SparseCore.bigSep_erase' (Finset.mem_erase.mpr ⟨ne (r := cc0_scratch1) (s := cc0_scratch0) (by decide), own cc0_scratch1 rfl⟩),
    SparseCore.bigSep_erase' (Finset.mem_erase.mpr ⟨ne (r := cc0_scratch2) (s := cc0_scratch1) (by decide),
      Finset.mem_erase.mpr ⟨ne (r := cc0_scratch2) (s := cc0_scratch0) (by decide), own cc0_scratch2 rfl⟩⟩)]

theorem tile_body (hF : (K (F := F)).Facts) (hR : InRange kap (wordOf (roiAt m d))) (O : CellTallies nD τ sig (HIx 1)) (W : Waits sig (HIx 1))
    (hO : ∀ g, O g none = 0) :
    iprop(levAts (K (F := F)).L (K (F := F)).lev ∗ emp ∗ tileIn m d (L 0).val (L 1).val
        ∗ scopedBufs (thr d L) ∗ scopedSems0 (thr d L) ∗ owes (thr d L) O W)
      ⊢ wp frame (wpE (defs₀ (F := F)) 𝒱₀ (thr d L) none) Set.univ
        (cc0__roi_align_sc (F := F) L tabW (Memref.isWhole_whole _) roiW (Memref.isWhole_whole _) outW (Memref.isWhole_whole _)
          sT (Memref.isWhole_whole _) sR (Memref.isWhole_whole _) sO (Memref.isWhole_whole _) cc0_scratch3 cc0_scoped0 cc0_scoped1)
        fun _ => iprop(tileOut m d (L 0).val (L 1).val ∗ scopedBufs (thr d L) ∗ scopedSems0 (thr d L)
            ∗ ∃ W', ⌜∀ p ∈ W', p ∈ W ∨ p.2 = none⌝ ∗ owes (thr d L) O W') := by
  obtain ⟨RS, hS⟩ := ownSems0_V (F := F) d L
  obtain ⟨RB, hB⟩ := ownBufs_V (F := F) d L
  rw [(K (F := F)).scopedBufs_V hF d (cV L) (jV L), SparseCore.Cfg.scopedSems0_V (Val := Elt F) d (cV L) (jV L), hS, hB]
  unfold tileIn
  iintro ⟨#Hlv, -, ⟨Ht, Hr, Ho⟩, ⟨Hb0, Hb1, Hb2, HB⟩, ⟨Hs0, Hs1, Hs2, Hs3, HS⟩, HO⟩
  iapply (wp_wand_r frame _ _)
  isplitr [HB HS]
  · iapply (task_core d L (tabAt m d) (roiAt m d) (outAt m d) O W hR (tileShare (L 0).val (L 1).val))
    isplitl [Ht Hr Ho]
    · isplitl [Ht]; · iexact Ht
      isplitl [Hr]; · iexact Hr
      iexact Ho
    isplitl [Hb0]; · iexact Hb0
    isplitl [Hb1]; · iexact Hb1
    isplitl [Hb2]; · iexact Hb2
    isplitl [Hs0]; · iexact Hs0
    isplitl [Hs1]; · iexact Hs1
    isplitl [Hs2]; · iexact Hs2
    isplitl [Hs3]; · iexact Hs3
    isplitr; · iapply ((K (F := F)).mayWaits_none hO); iexact Hlv
    unfold owing
    iexists W; isplitr; · ipureintro; exact fun p hp => .inl hp
    iexact HO
  iintro %_ ⟨⟨-, -, Ho⟩, Hb0, Hb1, Hb2, Hs0, Hs1, Hs2, Hs3, HO⟩
  isplitl [Ho]; · unfold tileOut; iexact Ho
  isplitl [Hb0 Hb1 Hb2 HB]
  · isplitl [Hb0]; · iexact Hb0
    isplitl [Hb1]; · iexact Hb1
    isplitl [Hb2]; · iexact Hb2
    iexact HB
  isplitl [Hs0 Hs1 Hs2 Hs3 HS]
  · isplitl [Hs0]; · iexact Hs0
    isplitl [Hs1]; · iexact Hs1
    isplitl [Hs2]; · iexact Hs2
    isplitl [Hs3]; · iexact Hs3
    iexact HS
  unfold owing; iexact HO

end Tile

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__roi_align_sc (F := F) (coordsV c s) tabW (Memref.isWhole_whole _) roiW (Memref.isWhole_whole _)
          outW (Memref.isWhole_whole _) sT (Memref.isWhole_whole _) sR (Memref.isWhole_whole _) sO (Memref.isWhole_whole _)
          cc0_scratch3 cc0_scoped0 cc0_scoped1) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hR : ∀ d, InRange kap (wordOf (roiAt m d))) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF (hR d) O W hO).trans (wp_mono frame _ _ fun _ => obl_post)

/-! ## A SparseCore's part, dealt to its tiles -/

omit [FloatOps F] [Named F] in
/-- A SparseCore's rows are its tiles', and so are its columns. -/
theorem rows_tiles (c : ℕ) : rowsSet c = (Finset.univ : Finset (Fin 16)).biUnion fun i => rowSet (16 * c + i.val) := by
  ext x
  simp only [Finset.mem_biUnion, Finset.mem_univ, true_and, mem_rowsSet, mem_rowSet]
  exact ⟨fun h => ⟨⟨(x 0).val % 16, by omega⟩, by dsimp only; omega⟩, fun ⟨i, h⟩ => by omega⟩
omit [FloatOps F] [Named F] in
theorem cols_tiles (c : ℕ) : colsSet c = (Finset.univ : Finset (Fin 16)).biUnion fun i => colSet (16 * c + i.val) := by
  ext x
  simp only [Finset.mem_biUnion, Finset.mem_univ, true_and, mem_colsSet, mem_colSet]
  exact ⟨fun h => ⟨⟨(x 1).val / 2352 % 16, by omega⟩, by dsimp only; omega⟩, fun ⟨i, h⟩ => by omega⟩

omit [FloatOps F] [Named F] in
theorem tab_tiles (d : Dev nD) (c : ℕ) (f : Buf (Elt F) (tabLoc d)) :
    (tabLoc d ↦[rowsSet c]{fullShare} f : sProp 𝕄) = bigSep Finset.univ fun i : Fin 16 => tabLoc d ↦[rowSet (16 * c + i.val)]{fullShare} f := by
  rw [← pointsTo_biUnion (ℓ := tabLoc d) Finset.univ (fun i : Fin 16 => rowSet (16 * c + i.val)) (fun i _ j _ h => Finset.disjoint_left.mpr fun x hx hy => by
    rw [mem_rowSet] at hx hy; exact h (Fin.ext (by omega)))]
  rw [rows_tiles]
omit [FloatOps F] [Named F] in
theorem out_tiles (d : Dev nD) (c : ℕ) (f : Buf (Elt F) (outLoc d)) :
    (outLoc d ↦[colsSet c]{fullShare} f : sProp 𝕄) = bigSep Finset.univ fun i : Fin 16 => outLoc d ↦[colSet (16 * c + i.val)]{fullShare} f := by
  rw [← pointsTo_biUnion (ℓ := outLoc d) Finset.univ (fun i : Fin 16 => colSet (16 * c + i.val)) (fun i _ j _ h => Finset.disjoint_left.mpr fun x hx hy => by
    rw [mem_colSet] at hx hy; exact h (Fin.ext (by omega)))]
  rw [cols_tiles]

/-- A SparseCore's part is its tiles' parts; their results together are its result. -/
theorem vecSplit : (K (F := F)).VecSplit' (P m) 0 := by
  intro d c
  show coreIn m d c.val ⊢ |={Set.univ}=> iprop((bigSep (Finset.univ : Finset (Fin 16)) fun i => tileIn m d c.val i.val)
      ∗ ((bigSep (Finset.univ : Finset (Fin 16)) fun i => tileOut m d c.val i.val) -∗ coreOut m d c.val))
  unfold coreIn coreOut tileIn tileOut
  rw [bigSep_sep', bigSep_sep', tab_tiles, out_tiles, out_tiles]
  iintro ⟨Ht, Hr, Ho⟩
  ihave Hr' := (pointsTo_toks_split (coreShare c.val) 16) $$ Hr
  icases Hr' with ⟨-, Hr⟩
  imodintro
  isplitl [Ht Hr Ho]
  · isplitl [Ht]; · iexact Ht
    isplitl [Hr]; · iexact Hr
    iexact Ho
  iintro H; iexact H

/-! ## The launch element: the handshakes' rounds; nothing of the kernel's own -/

def u₀ : UU := (initOf (K (F := F)).hsCells (K (F := F)).hsToks, 1)

omit [FloatOps F] [Named F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.IdealRun

end
-- ==== Proof.IdealMain.lean ====
/-
  The program's run: the host's operations before the call, the call, and the reshape after it; what the result's buffer and the
  arguments' buffers hold at the end.
-/
module

public import proofs.«01_k».proof.Proof.IdealLaunch

@[expose] public section

noncomputable section

namespace Cert.Proof.IdealRun

open Cert.KernelIdeal Cert.KernelIdeal.Gen Cert.RoiAlign
open Idealize.ShloMosaic
open Idealize.ShloMosaic.StableHlo (held held_sub_split held_congr wp_hlo_within wp_seq)
open Idealize.ShloMosaic.SparseCore (S V T)
open Idealize.ShloMosaic.SparseCore.Cfg (HIx Pay tileRest ownBufs ownSems0 ownCells ownRefs mem_ownCells mem_ownRefs)
open Idealize.ShloMosaic.Transfers (shareTok shareDrop pointsTo_toks_split)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## @main on the TensorCore -/

abbrev a0 : DevRef τ sig := Proc.devRef .tc (main_arg0 : Ref sig .tc)
abbrev a1 : DevRef τ sig := Proc.devRef .tc (main_arg1 : Ref sig .tc)
abbrev a2 : DevRef τ sig := Proc.devRef .tc (main_arg2 : Ref sig .tc)
abbrev vRoi : DevRef τ sig := Proc.devRef .tc (main_v26 : Ref sig .tc)
abbrev vTab : DevRef τ sig := Proc.devRef .tc (main_v31 : Ref sig .tc)
abbrev vOut : DevRef τ sig := Proc.devRef .tc (main_v32 : Ref sig .tc)
abbrev vRes : DevRef τ sig := Proc.devRef .tc (main_v33 : Ref sig .tc)

/-- The call's three buffers; the arguments and the program's result; and these with the call's result. -/
abbrev callRefs : Finset (DevRef τ sig) := {vTab, vRoi, vOut}
abbrev endRefs : Finset (DevRef τ sig) := {a0, a1, a2, vRes}
abbrev lastRefs : Finset (DevRef τ sig) := insert vOut endRefs

omit [FloatOps F] [Named F] in
theorem held_call (d : Dev nD) (W : Valuation τ sig (Elt F)) :
    (held (T d) callRefs W : sProp 𝕄) = iprop((tabLoc d ↦{fullShare} W vTab) ∗ (roiLoc d ↦{fullShare} W vRoi) ∗ outLoc d ↦{fullShare} W vOut) := by
  unfold held callRefs
  rw [SparseCore.bigSep_insert' (by decide), SparseCore.bigSep_insert' (by decide), bigSep_singleton]

omit [FloatOps F] [Named F] in
theorem held_last (d : Dev nD) (W : Valuation τ sig (Elt F)) :
    (held (T d) lastRefs W : sProp 𝕄) = iprop((outLoc d ↦{fullShare} W vOut) ∗ held (T d) endRefs W) := by
  unfold held lastRefs
  rw [SparseCore.bigSep_insert' (by decide)]

theorem unscoped_held (d : Dev nD) : (unscopedBufs d (fun b => m ((SparseCore.T d).loc b)) : sProp 𝕄)
    = held (T d) (StableHlo.tcRefs τ sig) (V0 m d) := by
  unfold unscopedBufs held StableHlo.tcRefs
  rw [show (Finset.univ.filter fun b : Ref sig .tc => ¬ b.isScoped) = Finset.univ by decide, BI.bigSep_map]
  rfl

theorem call_sub : callRefs ⊆ StableHlo.tcRefs τ sig := by
  intro b hb
  simp only [callRefs, Finset.mem_insert, Finset.mem_singleton] at hb
  rcases hb with rfl | rfl | rfl <;> exact StableHlo.devRef_mem_tcRefs _

theorem end_sub : endRefs ⊆ StableHlo.tcRefs τ sig \ callRefs := by
  intro b hb
  refine Finset.mem_sdiff.mpr ⟨?_, ?_⟩
  · simp only [endRefs, Finset.mem_insert, Finset.mem_singleton] at hb
    rcases hb with rfl | rfl | rfl | rfl <;> exact StableHlo.devRef_mem_tcRefs _
  · exact Finset.disjoint_left.mp (show Disjoint endRefs callRefs by decide) hb

/-- The buffers after the call: the call's result at the elements the tiles computed. -/
def V2 (d : Dev nD) : Valuation τ sig (Elt F) := Function.update (V1 m d) vOut (resAt m d)

theorem V2_end (d : Dev nD) : ∀ b ∈ endRefs, V1 m d b = V2 m d b := by
  intro b hb
  refine (Function.update_of_ne (fun e => ?_) _ _).symm
  subst e
  exact absurd hb (by decide)
theorem V2_out (d : Dev nD) : V2 m d vOut = resAt m d := Function.update_self _ _ _

omit [FloatOps F] [Named F] in
/-- The table and the result are the two SparseCores'. -/
theorem tab_cores (d : Dev nD) (f : Buf (Elt F) (tabLoc d)) :
    (tabLoc d ↦{fullShare} f : sProp 𝕄) = bigSep Finset.univ fun c : Fin 2 => tabLoc d ↦[rowsSet c.val]{fullShare} f := by
  rw [← pointsTo_biUnion (ℓ := tabLoc d) Finset.univ (fun c : Fin 2 => rowsSet c.val) (fun i _ j _ h => Finset.disjoint_left.mpr fun x hx hy => by
    rw [mem_rowsSet] at hx hy; exact h (Fin.ext (by omega)))]
  rw [show (Finset.univ : Finset (Fin 2)).biUnion (fun c => rowsSet c.val) = Finset.univ from Finset.eq_univ_of_forall fun x => by
    have hx : (x 0).val < 32 := (x 0).isLt
    exact Finset.mem_biUnion.mpr ⟨⟨(x 0).val / 16, by omega⟩, Finset.mem_univ _, mem_rowsSet.mpr rfl⟩]
omit [FloatOps F] [Named F] in
theorem out_cores (d : Dev nD) (f : Buf (Elt F) (outLoc d)) :
    (outLoc d ↦{fullShare} f : sProp 𝕄) = bigSep Finset.univ fun c : Fin 2 => outLoc d ↦[colsSet c.val]{fullShare} f := by
  rw [← pointsTo_biUnion (ℓ := outLoc d) Finset.univ (fun c : Fin 2 => colsSet c.val) (fun i _ j _ h => Finset.disjoint_left.mpr fun x hx hy => by
    rw [mem_colsSet] at hx hy; exact h (Fin.ext (by omega)))]
  rw [show (Finset.univ : Finset (Fin 2)).biUnion (fun c => colsSet c.val) = Finset.univ from Finset.eq_univ_of_forall fun x => by
    have hx : (x 1).val < 75264 := (x 1).isLt
    exact Finset.mem_biUnion.mpr ⟨⟨(x 1).val / 2352 / 16, by omega⟩, Finset.mem_univ _, mem_colsSet.mpr rfl⟩]

/-- What the call takes, of the three buffers; and what it hands back. -/
theorem st0 (d : Dev nD) : (held (T d) callRefs (V1 m d) : sProp 𝕄)
    ⊢ bigSep Finset.univ fun c : Fin ((K (F := F)).nCore 0) => (P m).st 0 d c := by
  show _ ⊢ bigSep (Finset.univ : Finset (Fin 2)) fun c => coreIn m d c.val
  unfold coreIn
  rw [held_call, bigSep_sep', bigSep_sep', tab_cores, out_cores]
  iintro ⟨Ht, Hr, Ho⟩
  ihave Hr' := (pointsTo_toks_split fullShare 2) $$ Hr
  icases Hr' with ⟨-, Hr⟩
  isplitl [Ht]; · iexact Ht
  isplitl [Hr]; · iexact Hr
  iexact Ho
theorem dn0 (d : Dev nD) : (bigSep Finset.univ fun c : Fin ((K (F := F)).nCore 0) => (P m).dn 0 d c)
    = (outLoc d ↦{fullShare} (resAt m d : Buf (Elt F) (outLoc d)) : sProp 𝕄) := by
  show (bigSep (Finset.univ : Finset (Fin 2)) fun c => coreOut m d c.val) = _
  unfold coreOut
  rw [out_cores]

theorem last_held (d : Dev nD) : (held (T d) lastRefs (V2 m d) : sProp 𝕄)
    = iprop((outLoc d ↦{fullShare} (resAt m d : Buf (Elt F) (outLoc d))) ∗ held (T d) endRefs (V1 m d)) := by
  rw [held_last, V2_out, held_congr (T d) (V2_end m d)]

theorem behind_bufs : (behind (F := F)).bufs ⊆ lastRefs := show ({vOut, vRes} : Finset (DevRef τ sig)) ⊆ lastRefs by decide

/-- What @main leaves: its arguments and its result, as the last operation leaves them. -/
def FIN (d : Dev nD) : sProp 𝕄 := held (T d) lastRefs ((behind (F := F)).result (V2 m d))

/-- @main on device `d`'s TensorCore: the operations before the call, the call, the operation after it. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d (StableHlo.tcRefs τ sig) _ before before_bufs before_fresh (V0 m d)) $$ [Hb Hheld]
  · isplitl [Hb]; · iexact Hb
    iexact Hheld
  iintro ⟨Hb, Hheld⟩
  ihave Hh := (Entails.of_eq (held_sub_split (T d) call_sub (V1 m d))) $$ Hheld
  icases Hh with ⟨Hcall, Hrest⟩
  ihave Hh := (Entails.of_eq (held_sub_split (T d) end_sub (V1 m d))) $$ Hrest
  icases Hh with ⟨Hend, -⟩
  rw [wp_bind]
  iapply ((K (F := F)).wp_run (D (F := F)) 𝒱 (EH := EH) (P := P m) κ d 0) $$ [Hst Hcall Hend Hb Hts]
  isplitr; · iexact Hctx
  isplitl [Hst]; · iexact Hst
  isplitl [Hcall]; · iapply (st0 m d); iexact Hcall
  iintro ⟨Hst, Hdn⟩
  ihave Hout := (Entails.of_eq (dn0 m d)) $$ Hdn
  rw [wp_bind]
  iapply (wp_hlo_within 𝒱 (SparseCore.T d) none Set.univ (op := behind) (S := lastRefs) behind_bufs (V := V2 m d)) $$ [Hb Hout Hend]
  · isplitl [Hb]; · iexact Hb
    iapply (Entails.of_eq (last_held m d).symm)
    isplitl [Hout]; · iexact Hout
    iexact Hend
  iintro ⟨Hb, Hheld⟩
  rw [wp_ret]; imodintro
  rw [wp_pure]; imodintro
  isplitl [Hst]; · iexact Hst
  isplitr [Hb Hts]
  · unfold FIN; iexact Hheld
  isplitl [Hb] <;> iassumption

def fq (d : Dev nD) (s' : Phys nD τ sig (Elt F)) : Prop := ∀ b ∈ lastRefs, s'.mem.mem (d, b) = (behind (F := F)).result (V2 m d) b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) lastRefs) $$ [HSI H]
  · isplitl [HSI]; · iexact HSI
    iexact H
  ipureintro
  exact h

/-! ## The program's run -/

/-- What the program ends with: its arguments as they were, its result at the elements the tiles computed, every semaphore at zero. -/
def QC : PUnit × MemSt nD τ sig (Elt F) → Prop := fun r => (∀ c : Dev nD,
    r.2.mem ((c.tc : Thread nD τ).loc main_v33) = (shapeCast S512x384x14x14 (outOf (tabOf (m ((c.tc : Thread nD τ).loc main_arg0)))
      (roiOf (m ((c.tc : Thread nD τ).loc main_arg1)) (m ((c.tc : Thread nD τ).loc main_arg2)))) shapeCasts_S512x75264_S512x384x14x14 : FVec F S512x384x14x14 .f32)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) ∧ r.2.sem = fun _ => 0

theorem arg_kept (d : Dev nD) {r : Ref sig .tc} (h : r ∉ written) (h1 : r ≠ main_v32) (h2 : r ≠ main_v33) :
    (behind (F := F)).result (V2 m d) (Proc.devRef .tc r) = m (d, Proc.devRef .tc r) := by
  rw [(behind (F := F)).result_of_not_mem (V2 m d) (b := Proc.devRef .tc r) (show Proc.devRef .tc r ∉ ({vRes} : Finset (DevRef τ sig)) from
    fun e => h2 (Proc.devRef_injective _ (Finset.mem_singleton.mp e)))]
  exact (Function.update_of_ne (fun e => h1 (Proc.devRef_injective _ e)) _ _).trans (kept_after (V0 m d) h)

theorem res_eq (d : Dev nD) : (behind (F := F)).result (V2 m d) vRes = (shapeCast S512x384x14x14 (resAt m d) shapeCasts_S512x75264_S512x384x14x14 : FVec F S512x384x14x14 .f32) := by
  rw [← V2_out m d]
  unfold behind
  simp only [StableHlo.reshape_result']
  rfl

theorem hQ (s' : Phys nD τ sig (Elt F)) (h : ∀ d, fq m d s') (hz : s'.mem.sem = fun _ => 0) : QC m (⟨⟩, s'.mem) := by
  refine ⟨fun d => ⟨?_, ?_, ?_, ?_⟩, hz⟩
  · refine (h d vRes (by decide)).trans ((res_eq m d).trans ?_)
    unfold resAt tabAt roiAt V1
    rw [tab_after, roi_after]
  · exact (h d a0 (by decide)).trans (arg_kept m d (by decide) (by decide) (by decide))
  · exact (h d a1 (by decide)).trans (arg_kept m d (by decide) (by decide) (by decide))
  · exact (h d a2 (by decide)).trans (arg_kept m d (by decide) (by decide) (by decide))

theorem run_main [∀ e, Nonempty (Elt F e)]
    (hR : ∀ d : Dev nD, InRange kap (wordOf (roiOf (m ((d.tc : Thread nD τ).loc main_arg1)) (m ((d.tc : Thread nD τ).loc main_arg2))))) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts fun d => by unfold roiAt V1; rw [roi_after]; exact hR d)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (hQ m)

end Cert.Proof.IdealRun

end
-- ==== Proof.Reals.lean ====
/-
  Over the extended reals: the words of a region of the precondition are reals, its sample coordinates lie in `[0, 32)`, and
  there a coordinate's lower neighbour is its floor.
-/
module

public import proofs.«01_k».proof.Proof.Precondition
public import Idealize.ShloMosaic.Lib.IdealHost

@[expose] public section

noncomputable section

namespace Cert.RoiAlign

open Idealize.ShloMosaic
open Cert.Pre_boxes_in_image (S_ S512x6)

/-! ## Truncation -/

theorem word_toInt {n : ℕ} (h : n < 2 ^ 31) : (BitVec.ofNat 32 n).toInt = n := by
  rw [BitVec.toInt_eq_toNat_of_lt (by rw [BitVec.toNat_ofNat]; omega), BitVec.toNat_ofNat, Nat.mod_eq_of_lt (by omega)]

theorem fptosi_toInt (r : ℝ) : (FloatOps.fptosi (F := Ideal) (φ := .f32) 32 ((r : ℝ) : EReal) : BitVec 32).toInt
    = max (-2147483648) (min 2147483647 (if 0 ≤ r then ⌊r⌋ else ⌈r⌉)) := by
  show (BitVec.ofInt 32 (max (-2147483648) (min 2147483647 (if 0 ≤ r then ⌊r⌋ else ⌈r⌉)))).toInt = _
  rw [BitVec.toInt_ofInt]
  generalize (if 0 ≤ r then ⌊r⌋ else ⌈r⌉ : ℤ) = z
  rw [Int.bmod_eq_of_le] <;> omega

/-- A real above minus one truncates to no negative number, -/
theorem fptosi_nonneg {r : ℝ} (h : -1 < r) : 0 ≤ (FloatOps.fptosi (F := Ideal) (φ := .f32) 32 ((r : ℝ) : EReal) : BitVec 32).toInt := by
  rw [fptosi_toInt]
  have : 0 ≤ (if 0 ≤ r then ⌊r⌋ else ⌈r⌉ : ℤ) := by
    split
    · rename_i h0; exact Int.floor_nonneg.2 h0
    · have : (-1 : ℤ) < ⌈r⌉ := Int.lt_ceil.2 (by push_cast; exact h)
      omega
  omega

/-- and only such a real does. -/
theorem neg_one_lt {r : ℝ} (h : 0 ≤ (FloatOps.fptosi (F := Ideal) (φ := .f32) 32 ((r : ℝ) : EReal) : BitVec 32).toInt) : -1 < r := by
  rw [fptosi_toInt] at h
  by_contra hc
  have h1 : ¬ 0 ≤ r := by linarith
  rw [if_neg h1] at h
  have : ⌈r⌉ ≤ -1 := Int.ceil_le.2 (by push_cast; linarith)
  omega

/-- A real of the map truncates to its floor. -/
theorem fptosi_map {r : ℝ} (h0 : 0 ≤ r) (h : r < 32) : (FloatOps.fptosi (F := Ideal) (φ := .f32) 32 ((r : ℝ) : EReal) : BitVec 32) = BitVec.ofNat 32 ⌊r⌋₊ := by
  apply BitVec.eq_of_toInt_eq
  rw [fptosi_toInt, if_pos h0]
  have h2 : ⌊r⌋₊ < 32 := (Nat.floor_lt h0).2 (by exact_mod_cast h)
  have h3 : (⌊r⌋₊ : ℤ) = ⌊r⌋ := Int.natCast_floor_eq_floor h0
  rw [word_toInt (by omega), ← h3]
  omega

/-! ## A region's coordinates -/

theorem lit_pos : ∃ l : ℝ, Ideal.ofBits .f32 0x3D9D89D9#32 = (l : EReal) ∧ (13⁻¹ : ℝ) ≤ l := by
  refine ⟨10324441 / 134217728, ?_, by norm_num⟩
  simp [Ideal.ofBits, Ideal.ieee, -EReal.coe_mul]; norm_num

theorem ofBits_32 : Ideal.ofBits .f32 0x42000000#32 = ((32 : ℝ) : EReal) := by
  simp [Ideal.ofBits, Ideal.ieee, -EReal.coe_mul]; norm_num

theorem ofBits_13 : Ideal.ofBits .f32 0x41500000#32 = ((13 : ℝ) : EReal) := by
  simp [Ideal.ofBits, Ideal.ieee, -EReal.coe_mul]; norm_num

/-- The image's height, a real. -/
def height (h : IVec S_ 32) : ℝ := ((h ix0).toInt : ℝ)

theorem scale_eq {h : IVec S_ 32} (hh : 1 ≤ (h ix0).toInt) : scale (F := Ideal) h = ((32 / height h : ℝ) : EReal) := by
  have h1 : (1 : ℝ) ≤ height h := by unfold height; exact_mod_cast hh
  show Ideal.div (Ideal.ofBits .f32 0x42000000#32) ((height h : ℝ) : EReal) = _
  rw [ofBits_32, Ideal.div_coe (by linarith), ← EReal.coe_mul]
  congr 1; ring

/-- A corner in the image is a real between zero and the height less one. -/
theorem corner_real {h : IVec S_ 32} {a : EReal} (c : Corner (F := Ideal) h a) : ∃ r : ℝ, a = (r : EReal) ∧ 0 ≤ r ∧ r ≤ height h - 1 := by
  have h0 : (0 : EReal) ≤ a := by
    have e := c.low
    by_contra hc
    rw [show FloatOps.cmpf (F := Ideal) (φ := .f32) .oge a (FloatOps.ofBits .f32 0x00000000#32) = 0#1 from by
      show BitVec.ofBool (decide (Ideal.ofBits .f32 0x00000000#32 ≤ a)) = 0#1
      rw [Ideal.ofBits_zero_f32, decide_eq_false hc]; rfl] at e
    exact absurd e (by decide)
  have h1 : a ≤ ((height h - 1 : ℝ) : EReal) := by
    have e := c.high
    by_contra hc
    rw [show FloatOps.cmpf (F := Ideal) (φ := .f32) .ole a (top h) = 0#1 from by
      show BitVec.ofBool (decide (a ≤ ((height h : ℝ) : EReal) - Ideal.ofBits .f32 0x3F800000#32)) = 0#1
      rw [Ideal.ofBits_one_f32, ← EReal.coe_one, ← EReal.coe_sub, decide_eq_false hc]; rfl] at e
    exact absurd e (by decide)
  induction a using EReal.rec with
  | bot => exact absurd h0 (by simp)
  | top => exact absurd h1 (not_le.2 (EReal.coe_lt_top _))
  | coe r => exact ⟨r, rfl, by exact_mod_cast h0, by exact_mod_cast h1⟩

/-- The coordinate `i` steps of `k` from `a` to `b`, in the map's units. -/
def at' (k : ℝ) (h : IVec S_ 32) (a b : ℝ) (i : ℕ) : ℝ := a * (32 / height h) + ((b - a) * (32 / height h)) * k * i

/-- A thirteenth's first fourteen steps stay on the map. -/
theorem at_map {h : IVec S_ 32} (hh : 1 ≤ (h ix0).toInt) {a b : ℝ} (ha : 0 ≤ a ∧ a ≤ height h - 1) (hb : 0 ≤ b ∧ b ≤ height h - 1)
    {i : ℕ} (hi : i < 14) : 0 ≤ at' 13⁻¹ h a b i ∧ at' 13⁻¹ h a b i < 32 := by
  have h1 : (1 : ℝ) ≤ height h := by unfold height; exact_mod_cast hh
  have hi' : (i : ℝ) ≤ 13 := by exact_mod_cast (by omega : i ≤ 13)
  have hi0 : (0 : ℝ) ≤ i := by positivity
  have e : at' 13⁻¹ h a b i = (a * (13 - i) + b * i) / 13 * (32 / height h) := by unfold at'; ring
  have hs : 0 < 32 / height h := by positivity
  rw [e]
  constructor
  · have := mul_nonneg ha.1 (by linarith : 0 ≤ 13 - (i : ℝ))
    have := mul_nonneg hb.1 hi0
    positivity
  · have h2 : (a * (13 - i) + b * i) / 13 ≤ height h - 1 := by
      have := mul_le_mul_of_nonneg_right ha.2 (by linarith : 0 ≤ 13 - (i : ℝ))
      have := mul_le_mul_of_nonneg_right hb.2 hi0
      rw [div_le_iff₀ (by norm_num)]; nlinarith
    calc (a * (13 - i) + b * i) / 13 * (32 / height h) ≤ (height h - 1) * (32 / height h) := mul_le_mul_of_nonneg_right h2 hs.le
      _ < height h * (32 / height h) := mul_lt_mul_of_pos_right (by linarith) hs
      _ = 32 := by field_simp

/-- A step that is above minus one for a larger constant is so for a thirteenth. -/
theorem at_above {h : IVec S_ 32} (hh : 1 ≤ (h ix0).toInt) {a b l : ℝ} (ha : 0 ≤ a) (hl : (13⁻¹ : ℝ) ≤ l) {i : ℕ}
    (hp : -1 < at' l h a b i) : -1 < at' 13⁻¹ h a b i := by
  have h1 : (1 : ℝ) ≤ height h := by unfold height; exact_mod_cast hh
  have hi0 : (0 : ℝ) ≤ i := by positivity
  have hs : 0 < 32 / height h := by positivity
  unfold at' at hp ⊢
  rcases le_total a b with hab | hab
  · have := mul_nonneg ha hs.le
    have : 0 ≤ (b - a) * (32 / height h) * 13⁻¹ * i := mul_nonneg (mul_nonneg (mul_nonneg (by linarith) hs.le) (by norm_num)) hi0
    linarith
  · have h2 : (b - a) * (32 / height h) * l * i ≤ (b - a) * (32 / height h) * 13⁻¹ * i :=
      mul_le_mul_of_nonneg_right (mul_le_mul_of_nonpos_left hl (mul_nonpos_of_nonpos_of_nonneg (by linarith) hs.le)) hi0
    linarith

/-- A coordinate of the kernel, a real. -/
theorem coord_real {h : IVec S_ 32} (hh : 1 ≤ (h ix0).toInt) (a b k : ℝ) {i : ℕ} (hi : i < 2 ^ 31) :
    FloatOps.addf (F := Ideal) (φ := .f32) (FloatOps.mulf ((a : ℝ) : EReal) (scale h))
      (FloatOps.mulf (FloatOps.mulf (FloatOps.mulf (FloatOps.subf ((b : ℝ) : EReal) ((a : ℝ) : EReal)) (scale h)) ((k : ℝ) : EReal))
        (FloatOps.sitofp .f32 (BitVec.ofNat 32 i))) = ((at' k h a b i : ℝ) : EReal) := by
  show (a : EReal) * scale (F := Ideal) h + ((b : EReal) - a) * scale (F := Ideal) h * k * (((BitVec.ofNat 32 i).toInt : ℝ) : EReal) = _
  rw [scale_eq hh, word_toInt hi]
  unfold at'
  push_cast
  rfl

end Cert.RoiAlign

end
-- ==== Proof.IdealFrame.lean ====
/-
  Over the extended reals the precondition gives what the kernel's proof asks of its regions' words: a thirteenth is less than
  the precondition's constant, and a coordinate that the constant keeps above minus one a thirteenth keeps there too.
-/
module

public import proofs.«01_k».proof.Proof.IdealMain
public import proofs.«01_k».proof.Proof.Reals

@[expose] public section

noncomputable section

namespace Cert.Proof.IdealRun

open Cert.KernelIdeal Cert.KernelIdeal.Gen Cert.RoiAlign
open Idealize.ShloMosaic
open Idealize.SL.Sem

/-- The words of the regions' table: column `k` at region `m`. -/
theorem words (x : FVec Ideal S512x6 .f32) (h : IVec S_ 32) (k : Fin 5) (m : Fin 512) :
    wordOf (roiOf x h) (512 * k.val + m.val) = (![x (ix2 m 0), FloatOps.mulf (x (ix2 m 2)) (scale h), FloatOps.mulf (x (ix2 m 3)) (scale h),
      FloatOps.mulf (FloatOps.subf (x (ix2 m 4)) (x (ix2 m 2))) (scale h),
      FloatOps.mulf (FloatOps.subf (x (ix2 m 5)) (x (ix2 m 3))) (scale h)] : Fin 5 → Ideal .f32) k :=
  roiOf_apply x h k m _ (Nat.mod_eq_of_lt (by omega))

theorem kap_eq : kap (F := Ideal) = ((13⁻¹ : ℝ) : EReal) := rfl

variable {x : FVec Ideal S512x6 .f32} {h : IVec S_ 32} {m : Fin 512}

/-- A row coordinate of the kernel, from the region's upper and lower edges. -/
theorem ys_real (hh : 1 ≤ (h ix0).toInt) {a b : ℝ} (ha : x (ix2 m 3) = (a : EReal)) (hb : x (ix2 m 5) = (b : EReal)) {i : ℕ} (hi : i < 2 ^ 31) :
    ys kap (wordOf (roiOf x h)) m i = ((at' 13⁻¹ h a b i : ℝ) : EReal) := by
  have e1 := words x h 2 m
  have e2 := words x h 4 m
  refine (congrArg₂ _ e1 (congrArg₂ _ (congrArg₂ _ e2 rfl) rfl)).trans ((coord_real hh a b 13⁻¹ hi).symm.trans ?_).symm
  rw [← ha, ← hb]
  rfl

/-- A column coordinate of the kernel, from the region's left and right edges. -/
theorem xs_real (hh : 1 ≤ (h ix0).toInt) {a b : ℝ} (ha : x (ix2 m 2) = (a : EReal)) (hb : x (ix2 m 4) = (b : EReal)) {i : ℕ} (hi : i < 2 ^ 31) :
    xs kap (wordOf (roiOf x h)) m i = ((at' 13⁻¹ h a b i : ℝ) : EReal) := by
  have e1 := words x h 1 m
  have e2 := words x h 3 m
  refine (congrArg₂ _ e1 (congrArg₂ _ (congrArg₂ _ e2 rfl) rfl)).trans ((coord_real hh a b 13⁻¹ hi).symm.trans ?_).symm
  rw [← ha, ← hb]
  rfl

theorem image_word (m : Fin 512) : wordOf (roiOf x h) m = x (ix2 m 0) := by
  have e := words x h 0 m
  rw [show 512 * (0 : Fin 5).val + m.val = m.val from by omega] at e
  exact e

/-- The regions of the precondition are in range, for the kernel whose constant is a thirteenth. -/
theorem inRange (e : ∀ m, Region x h m) : InRange kap (wordOf (roiOf x h)) where
  image m hm := by rw [image_word ⟨m, hm⟩]; exact (e ⟨m, hm⟩).image
  row m hm i hi := by
    have r := e ⟨m, hm⟩
    obtain ⟨a, ha, ha0, -⟩ := corner_real r.upper
    obtain ⟨b, hb, -, -⟩ := corner_real r.lower
    obtain ⟨l, hl, hl'⟩ := lit_pos
    rw [ys_real (m := ⟨m, hm⟩) r.height ha hb (by omega)]
    refine fptosi_nonneg (at_above r.height ha0 hl' (neg_one_lt ?_))
    rw [← coord_real r.height a b l (by omega : i < 2 ^ 31), ← ha, ← hb, ← hl]
    exact r.row i hi
  col m hm j hj := by
    have r := e ⟨m, hm⟩
    obtain ⟨a, ha, ha'⟩ := corner_real r.left
    obtain ⟨b, hb, hb'⟩ := corner_real r.right
    rw [xs_real (m := ⟨m, hm⟩) r.height ha hb (by omega)]
    have := (at_map r.height ha' hb' hj).1
    exact fptosi_nonneg (by linarith)

/-- The idealized kernel runs, keeps its arguments and ends quiescent. -/
theorem frame : Cert.quiescent_KernelIdeal :=
  fun m g hp => (θ_run _ _ _).mono (fun _ hq => ⟨fun c => (hq.1 c).2, hq.2⟩)
    (run_main m g fun d => inRange fun r => region_of_fn (hp d) r)

end Cert.Proof.IdealRun

end
-- ==== Proof.Reference.lean ====
/-
  The reference: its run, and its result read at one element as the bilinear blend of four features of the map.
-/
module

public import proofs.«01_k».proof.Proof.Reals
public import proofs.«01_k».proof.Proof.Gen.ReferenceIdeal
public import proofs.«01_k».proof.Proof.Gen.ReferenceIdeal.Run
public import Idealize.ShloMosaic.Lib.PointwiseCore
public import Idealize.ShloMosaic.Lib.Quiescent

@[expose] public section

noncomputable section

namespace Cert.Proof.Reference

open Cert.ReferenceIdeal Cert.ReferenceIdeal.Gen Cert.RoiAlign
open Idealize.ShloMosaic
open Idealize.SL.Sem

/-- The reference runs, keeps its arguments, and has no semaphore. -/
theorem frame : Cert.quiescent_ReferenceIdeal :=
  fun m g _ => (θ_run _ _ _).mono (fun r h => ⟨fun c => (h c).2, sem_eq_zero_of_no_sems (by decide) r.2⟩)
    (Cert.ReferenceIdeal.Value.run (F := Ideal) m g)

variable {F : FTy → Type} [FloatOps F]

/-- The reference's gather of one feature for every channel reads the map at the image, row and column its index names. -/
theorem gather_apply (x : FVec F S4x384x32x32 .f32) (idx : IVec S512x14x14x3 32) (m : Fin 512) (i j : Fin 14) (c : Fin 384)
    (b : Fin 4) (y w : Fin 32) (hb : idx (ix4 m i j 0) = BitVec.ofNat 32 b.val) (hy : idx (ix4 m i j 1) = BitVec.ofNat 32 y.val)
    (hw : idx (ix4 m i j 2) = BitVec.ofNat 32 w.val) :
    Host.gather gather_S4x384x32x32_S512x14x14x3_S512x14x14x384_3_023_n_n_023_3_138411 x idx (ix4 m i j c) = x (ix4 b c y w) := by
  have hs (k : Fin 3) : gather_S4x384x32x32_S512x14x14x3_S512x14x14x384_3_023_n_n_023_3_138411.siIdx (ix4 m i j c) k = ix4 m i j k := by
    funext a
    fin_cases a <;> rfl
  unfold Host.gather
  refine congrArg x (funext fun a => Fin.ext ?_)
  have hn {n k : ℕ} (h : n < k) (hk : k ≤ 32) : (BitVec.ofNat 32 n).toInt.toNat = n := by rw [word_toInt (by omega)]; rfl
  match a with
  | 0 =>
    show min (idx (gather_S4x384x32x32_S512x14x14x3_S512x14x14x384_3_023_n_n_023_3_138411.siIdx (ix4 m i j c) (0 : Fin 3))).toInt.toNat (4 - 1) + 0 + 0 = b.val
    rw [hs, hb, hn b.isLt (by omega)]; omega
  | 1 =>
    show 0 + 0 + c.val = c.val
    omega
  | 2 =>
    show min (idx (gather_S4x384x32x32_S512x14x14x3_S512x14x14x384_3_023_n_n_023_3_138411.siIdx (ix4 m i j c) (1 : Fin 3))).toInt.toNat (32 - 1) + 0 + 0 = y.val
    rw [hs, hy, hn y.isLt (by omega)]; omega
  | 3 =>
    show min (idx (gather_S4x384x32x32_S512x14x14x3_S512x14x14x384_3_023_n_n_023_3_138411.siIdx (ix4 m i j c) (2 : Fin 3))).toInt.toNat (32 - 1) + 0 + 0 = w.val
    rw [hs, hw, hn w.isLt (by omega)]; omega

/-- An index as the reference writes it before a gather: a negative one counts from the axis's end `n`. -/
def wrap (n x : BitVec 32) : BitVec 32 := Scalar.select (IntOp.cmpi .slt x 0#32) (IntOp.addi x n) x

theorem wrap_ofNat (n : BitVec 32) {k : ℕ} (h : k < 2 ^ 31) : wrap n (BitVec.ofNat 32 k) = BitVec.ofNat 32 k := by
  unfold wrap Scalar.select
  rw [if_neg]
  intro e
  have := slt_one e
  rw [word_toInt h, word_toInt (by omega)] at this
  omega

/-- The reference's index, one component of it at each region and position of the grid. -/
def imagePart (b : IVec S512x1x1 32) : IVec S512x14x14x1 32 :=
  broadcastInDim S512x14x14x1 ![0, 1, 2] bcast_S512x14x14_S512x14x14x1_0_1_2 (broadcastInDim S512x14x14 ![0, 1, 2] bcast_S512x1x1_S512x14x14_0_1_2
    (select (cmpi .slt b (broadcastInDim S512x1x1 ![] bcast_S_S512x1x1 (constantI S_ 32 0#32)))
      (addi b (broadcastInDim S512x1x1 ![] bcast_S_S512x1x1 (constantI S_ 32 4#32))) b))

def rowPart (y : IVec S512x14x1 32) : IVec S512x14x14x1 32 :=
  broadcastInDim S512x14x14x1 ![0, 1, 2] bcast_S512x14x14_S512x14x14x1_0_1_2 (broadcastInDim S512x14x14 ![0, 1, 2] bcast_S512x14x1_S512x14x14_0_1_2
    (select (cmpi .slt y (broadcastInDim S512x14x1 ![] bcast_S_S512x14x1 (constantI S_ 32 0#32)))
      (addi y (broadcastInDim S512x14x1 ![] bcast_S_S512x14x1 (constantI S_ 32 32#32))) y))

def colPart (w : IVec S512x1x14 32) : IVec S512x14x14x1 32 :=
  broadcastInDim S512x14x14x1 ![0, 1, 2] bcast_S512x14x14_S512x14x14x1_0_1_2 (broadcastInDim S512x14x14 ![0, 1, 2] bcast_S512x1x14_S512x14x14_0_1_2
    (select (cmpi .slt w (broadcastInDim S512x1x14 ![] bcast_S_S512x1x14 (constantI S_ 32 0#32)))
      (addi w (broadcastInDim S512x1x14 ![] bcast_S_S512x1x14 (constantI S_ 32 32#32))) w))

theorem imagePart_apply (b : IVec S512x1x1 32) (m : Fin 512) (i j : Fin 14) : imagePart b (ix4 m i j 0) = wrap 4#32 (b (ix3 m 0 0)) := by
  pointwise [imagePart, wrap]

theorem rowPart_apply (y : IVec S512x14x1 32) (m : Fin 512) (i j : Fin 14) : rowPart y (ix4 m i j 0) = wrap 32#32 (y (ix3 m i 0)) := by
  pointwise [rowPart, wrap]

theorem colPart_apply (w : IVec S512x1x14 32) (m : Fin 512) (i j : Fin 14) : colPart w (ix4 m i j 0) = wrap 32#32 (w (ix3 m 0 j)) := by
  pointwise [colPart, wrap]

/-- The features the reference gathers at images `b`, rows `y`, columns `w`. -/
def gathered (x : FVec F S4x384x32x32 .f32) (b : IVec S512x1x1 32) (y : IVec S512x14x1 32) (w : IVec S512x1x14 32) : FVec F S512x14x14x384 .f32 :=
  Host.gather gather_S4x384x32x32_S512x14x14x3_S512x14x14x384_3_023_n_n_023_3_138411 x
    (concatenate S512x14x14x3 3 [⟨S512x14x14x1, imagePart b⟩, ⟨S512x14x14x1, rowPart y⟩, ⟨S512x14x14x1, colPart w⟩]
      concatenates_S512x14x14x1_S512x14x14x1_S512x14x14x1_S512x14x14x3_d3)

/-- Three components one after the other, read in one of them. -/
theorem three (a : Fin 3 → IVec S512x14x14x1 32) (k : Fin 3) (m : Fin 512) (i j : Fin 14) :
    concatenate S512x14x14x3 3 [⟨S512x14x14x1, a 0⟩, ⟨S512x14x14x1, a 1⟩, ⟨S512x14x14x1, a 2⟩]
      concatenates_S512x14x14x1_S512x14x14x1_S512x14x14x1_S512x14x14x3_d3 (ix4 m i j k) = a k (ix4 m i j 0) := by
  refine concatenate_apply_piece (t := S512x14x14x3) 3 [⟨S512x14x14x1, a 0⟩, ⟨S512x14x14x1, a 1⟩, ⟨S512x14x14x1, a 2⟩]
    concatenates_S512x14x14x1_S512x14x14x1_S512x14x14x1_S512x14x14x3_d3 (ix4 m i j k) k.val k.isLt S512x14x14x1 (a k) ?_ rfl k.val ?_ (ix4 m i j 0) ?_ ?_
  · match k with
    | 0 => rfl
    | 1 => rfl
    | 2 => rfl
  · match k with
    | 0 => rfl
    | 1 => rfl
    | 2 => rfl
  · intro b hb
    match b with
    | ⟨0, _⟩ => rfl
    | ⟨1, _⟩ => rfl
    | ⟨2, _⟩ => rfl
    | ⟨3, _⟩ => exact absurd rfl hb
  · show k.val + 0 = k.val
    omega

theorem gathered_apply (x : FVec F S4x384x32x32 .f32) {b : IVec S512x1x1 32} {y : IVec S512x14x1 32} {w : IVec S512x1x14 32} {m : Fin 512}
    {i j : Fin 14} (c : Fin 384) {B : Fin 4} {Y W : Fin 32} (hb : b (ix3 m 0 0) = BitVec.ofNat 32 B.val) (hy : y (ix3 m i 0) = BitVec.ofNat 32 Y.val)
    (hw : w (ix3 m 0 j) = BitVec.ofNat 32 W.val) : gathered x b y w (ix4 m i j c) = x (ix4 B c Y W) := by
  refine gather_apply x _ m i j c B Y W ?_ ?_ ?_
  · refine (three ![imagePart b, rowPart y, colPart w] 0 m i j).trans ((imagePart_apply b m i j).trans ?_)
    rw [hb, wrap_ofNat _ (by omega)]
  · refine (three ![imagePart b, rowPart y, colPart w] 1 m i j).trans ((rowPart_apply y m i j).trans ?_)
    rw [hy, wrap_ofNat _ (by omega)]
  · refine (three ![imagePart b, rowPart y, colPart w] 2 m i j).trans ((colPart_apply w m i j).trans ?_)
    rw [hw, wrap_ofNat _ (by omega)]

/-- The blend over the whole grid, from the gathered features and the weights. -/
def blended (g00 g01 g10 g11 : FVec F S512x14x14x384 .f32) (wy : FVec F S512x14x1x1 .f32) (wx : FVec F S512x1x14x1 .f32) :
    FVec F S512x384x14x14 .f32 :=
  transpose S512x384x14x14 [0, 3, 1, 2] (addf (addf (addf
      (mulf (mulf g00 (broadcastInDim S512x14x14x384 ![0, 1, 2, 3] bcast_S512x14x1x1_S512x14x14x384_0_1_2_3 (subf (broadcastInDim S512x14x1x1 ![] bcast_S_S512x14x1x1 (constant S_ .f32 0x3F800000#32)) wy)))
        (broadcastInDim S512x14x14x384 ![0, 1, 2, 3] bcast_S512x1x14x1_S512x14x14x384_0_1_2_3 (subf (broadcastInDim S512x1x14x1 ![] bcast_S_S512x1x14x1 (constant S_ .f32 0x3F800000#32)) wx)))
      (mulf (mulf g01 (broadcastInDim S512x14x14x384 ![0, 1, 2, 3] bcast_S512x14x1x1_S512x14x14x384_0_1_2_3 (subf (broadcastInDim S512x14x1x1 ![] bcast_S_S512x14x1x1 (constant S_ .f32 0x3F800000#32)) wy)))
        (broadcastInDim S512x14x14x384 ![0, 1, 2, 3] bcast_S512x1x14x1_S512x14x14x384_0_1_2_3 wx)))
      (mulf (mulf g10 (broadcastInDim S512x14x14x384 ![0, 1, 2, 3] bcast_S512x14x1x1_S512x14x14x384_0_1_2_3 wy))
        (broadcastInDim S512x14x14x384 ![0, 1, 2, 3] bcast_S512x1x14x1_S512x14x14x384_0_1_2_3 (subf (broadcastInDim S512x1x14x1 ![] bcast_S_S512x1x14x1 (constant S_ .f32 0x3F800000#32)) wx))))
      (mulf (mulf g11 (broadcastInDim S512x14x14x384 ![0, 1, 2, 3] bcast_S512x14x1x1_S512x14x14x384_0_1_2_3 wy))
        (broadcastInDim S512x14x14x384 ![0, 1, 2, 3] bcast_S512x1x14x1_S512x14x14x384_0_1_2_3 wx))) transposes_S512x14x14x384_S512x384x14x14_0_3_1_2

/-- The blend of four features as the reference writes it. -/
def mix (wy wx g00 g01 g10 g11 : F .f32) : F .f32 :=
  FloatOps.addf (FloatOps.addf (FloatOps.addf
    (FloatOps.mulf (FloatOps.mulf g00 (FloatOps.subf (FloatOps.ofBits .f32 0x3F800000#32) wy)) (FloatOps.subf (FloatOps.ofBits .f32 0x3F800000#32) wx))
    (FloatOps.mulf (FloatOps.mulf g01 (FloatOps.subf (FloatOps.ofBits .f32 0x3F800000#32) wy)) wx))
    (FloatOps.mulf (FloatOps.mulf g10 wy) (FloatOps.subf (FloatOps.ofBits .f32 0x3F800000#32) wx)))
    (FloatOps.mulf (FloatOps.mulf g11 wy) wx)

theorem blended_apply (g00 g01 g10 g11 : FVec F S512x14x14x384 .f32) (wy : FVec F S512x14x1x1 .f32) (wx : FVec F S512x1x14x1 .f32)
    (m : Fin 512) (c : Fin 384) (i j : Fin 14) : blended g00 g01 g10 g11 wy wx (ix4 m c i j)
      = mix (wy (ix4 m i 0 0)) (wx (ix4 m 0 j 0)) (g00 (ix4 m i j c)) (g01 (ix4 m i j c)) (g10 (ix4 m i j c)) (g11 (ix4 m i j c)) := by
  pointwise [blended, mix]

open Cert.ReferenceIdeal.Value in
/-- The reference's result. -/
def result (V : Valuation τ sig (Elt F)) : FVec F S512x384x14x14 .f32 :=
  blended (gathered (V (Proc.devRef .tc main_arg0)) (res_main_v54 V) (res_main_v55 V) (res_main_v57 V))
    (gathered (V (Proc.devRef .tc main_arg0)) (res_main_v54 V) (res_main_v55 V) (res_main_v58 V))
    (gathered (V (Proc.devRef .tc main_arg0)) (res_main_v54 V) (res_main_v56 V) (res_main_v57 V))
    (gathered (V (Proc.devRef .tc main_arg0)) (res_main_v54 V) (res_main_v56 V) (res_main_v58 V))
    (res_main_v151 V) (res_main_v152 V)

/-- The reference's run: its result at every device, its arguments kept. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v180) = result (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans rfl, (h c).2⟩) (Cert.ReferenceIdeal.Value.run m ρ)

end Cert.Proof.Reference

end
-- ==== Proof.Agree.lean ====
/-
  The idealized kernel and the reference agree: at every element both are the bilinear blend, with real weights, of the same
  four features of the map.
-/
module

public import proofs.«01_k».proof.Proof.IdealFrame
public import proofs.«01_k».proof.Proof.Reference
public import Idealize.ShloMosaic.Lib.Pointwise.IndexBridge

@[expose] public section

noncomputable section

namespace Cert.RoiAlign

open Idealize.ShloMosaic
open Cert.Pre_boxes_in_image (S_ S512x6 S4x384x32x32)

/-! ## A coordinate of the map: its two neighbours and its distance from the lower one -/

theorem floor_lt {r : ℝ} (h0 : 0 ≤ r) (h : r < 32) : ⌊r⌋₊ < 32 := (Nat.floor_lt h0).2 (by exact_mod_cast h)

theorem min_31 : ∀ n : Fin 32, IntOp.minsi (BitVec.ofNat 32 n.val) 31#32 = BitVec.ofNat 32 n.val
    ∧ IntOp.minsi 31#32 (IntOp.maxsi 0#32 (BitVec.ofNat 32 n.val)) = BitVec.ofNat 32 n.val
    ∧ IntOp.minsi (IntOp.addi (BitVec.ofNat 32 n.val) 1#32) 31#32 = BitVec.ofNat 32 (min (n.val + 1) 31)
    ∧ IntOp.minsi 31#32 (IntOp.maxsi 0#32 (IntOp.addi (BitVec.ofNat 32 n.val) 1#32)) = BitVec.ofNat 32 (min (n.val + 1) 31) := by
  decide

theorem cell_map {r : ℝ} (h0 : 0 ≤ r) (h : r < 32) : cell (F := Ideal) ((r : ℝ) : EReal) = BitVec.ofNat 32 ⌊r⌋₊ := by
  unfold cell
  rw [fptosi_map h0 h]
  exact (min_31 ⟨_, floor_lt h0 h⟩).1

theorem nextCell_map {n : ℕ} (h : n < 32) : nextCell (BitVec.ofNat 32 n) = BitVec.ofNat 32 (min (n + 1) 31) := (min_31 ⟨n, h⟩).2.2.1

theorem frac_map {r : ℝ} (h0 : 0 ≤ r) (h : r < 32) : frac (F := Ideal) ((r : ℝ) : EReal) = ((r - ⌊r⌋₊ : ℝ) : EReal) := by
  unfold frac
  rw [cell_map h0 h]
  show ((r : ℝ) : EReal) - (((BitVec.ofNat 32 ⌊r⌋₊).toInt : ℝ) : EReal) = _
  rw [word_toInt (by have := floor_lt h0 h; omega), ← EReal.coe_sub]
  rfl

/-- The reference's floor of a coordinate of the map, -/
theorem hostFloor_map {r : ℝ} (h0 : 0 ≤ r) : FloatOps.hostUnary (F := Ideal) (φ := .f32) .floor ((r : ℝ) : EReal) = (((⌊r⌋₊ : ℕ) : ℝ) : EReal) := by
  show (((⌊r⌋ : ℤ) : ℝ) : EReal) = _
  rw [← Int.natCast_floor_eq_floor h0]
  rfl

/-- and its truncation. -/
theorem fptosi_floor {r : ℝ} (h0 : 0 ≤ r) (h : r < 32) :
    (FloatOps.fptosi (F := Ideal) (φ := .f32) 32 (FloatOps.hostUnary (F := Ideal) (φ := .f32) .floor ((r : ℝ) : EReal)) : BitVec 32) = BitVec.ofNat 32 ⌊r⌋₊ := by
  have hl : ((⌊r⌋₊ : ℕ) : ℝ) < 32 := by exact_mod_cast floor_lt h0 h
  rw [hostFloor_map h0, fptosi_map (Nat.cast_nonneg _) hl, Nat.floor_natCast]

/-! ## The blend -/

/-- The two ways of writing the blend agree for real weights, whatever the features. -/
theorem blend_eq_mix (wy wx : ℝ) (a b c d : EReal) :
    blend (F := Ideal) ((wy : ℝ) : EReal) ((wx : ℝ) : EReal) a b c d = Cert.Proof.Reference.mix (F := Ideal) ((wy : ℝ) : EReal) ((wx : ℝ) : EReal) a b c d := by
  show ((Ideal.ofBits .f32 0x3F800000#32 - (wy : EReal)) - ((wx : EReal) - (wy : EReal) * (wx : EReal))) * a
      + ((wx : EReal) - (wy : EReal) * (wx : EReal)) * b + ((wy : EReal) - (wy : EReal) * (wx : EReal)) * c + ((wy : EReal) * (wx : EReal)) * d
    = a * (Ideal.ofBits .f32 0x3F800000#32 - (wy : EReal)) * (Ideal.ofBits .f32 0x3F800000#32 - (wx : EReal))
      + b * (Ideal.ofBits .f32 0x3F800000#32 - (wy : EReal)) * (wx : EReal) + c * (wy : EReal) * (Ideal.ofBits .f32 0x3F800000#32 - (wx : EReal))
      + d * (wy : EReal) * (wx : EReal)
  rw [Ideal.ofBits_one_f32, ← EReal.coe_one]
  simp only [mul_assoc, ← EReal.coe_sub, ← EReal.coe_mul]
  rw [mul_comm a, mul_comm b, mul_comm c, mul_comm d]
  congr 4 <;> congr 1 <;> ring

/-- An image index of the precondition, a number below four. -/
theorem image_fin {v : BitVec 32} (h : 0 ≤ v.toInt ∧ v.toInt < 4) : ∃ B : Fin 4, v = BitVec.ofNat 32 B.val := by
  refine ⟨⟨v.toInt.toNat, by omega⟩, BitVec.eq_of_toInt_eq ?_⟩
  rw [word_toInt (by simp only []; omega)]
  simp only []
  omega

/-- The upper neighbour of a coordinate's lower one. -/
def up (n : Fin 32) : Fin 32 := ⟨min (n.val + 1) 31, by omega⟩

/-- The lower neighbour of a coordinate of the map. -/
def down (r : ℝ) (h : 0 ≤ r ∧ r < 32) : Fin 32 := ⟨⌊r⌋₊, floor_lt h.1 h.2⟩

/-- The blend both programs compute, of the features `X` of image `B` in channel `c`, at row coordinate `y` and column coordinate `x`. -/
def sample (X : FVec Ideal S4x384x32x32 .f32) (B : Fin 4) (c : Fin 384) (y x : ℝ) (hy : 0 ≤ y ∧ y < 32) (hx : 0 ≤ x ∧ x < 32) : EReal :=
  blend (F := Ideal) ((y - ⌊y⌋₊ : ℝ) : EReal) ((x - ⌊x⌋₊ : ℝ) : EReal) (X (ix4 B c (down y hy) (down x hx))) (X (ix4 B c (down y hy) (up (down x hx))))
    (X (ix4 B c (up (down y hy)) (down x hx))) (X (ix4 B c (up (down y hy)) (up (down x hx))))

end Cert.RoiAlign

/-! ## The kernel -/

namespace Cert.Proof.IdealRun

open Cert.KernelIdeal Cert.KernelIdeal.Gen Cert.RoiAlign
open Idealize.ShloMosaic

/-- A word of the tile's table, by image, row, column and channel. -/
theorem row_word (X : FVec Ideal S4x384x32x32 .f32) (B : Fin 4) (y x : Fin 32) (w : Fin 32) (c : Fin 12) {b : BitVec 32} (hb : b.toNat = B.val * 1024) :
    rowOf (tabOf X) w.val (IntOp.addi (word b (BitVec.ofNat 32 y.val) (BitVec.ofNat 32 x.val)) (BitVec.ofNat 32 c.val)).toNat
      = X (ix4 B ⟨w.val * 12 + c.val, by omega⟩ y x) := by
  have hy : (BitVec.ofNat 32 y.val).toNat = y.val := by rw [BitVec.toNat_ofNat]; omega
  have hx : (BitVec.ofNat 32 x.val).toNat = x.val := by rw [BitVec.toNat_ofNat]; omega
  have hw := word_le (b := b) (y := BitVec.ofNat 32 y.val) (x := BitVec.ofNat 32 x.val) (by omega) (by omega) (by omega)
  have hn : (IntOp.addi (word b (BitVec.ofNat 32 y.val) (BitVec.ofNat 32 x.val)) (BitVec.ofNat 32 c.val)).toNat
      = ((B.val * 1024 + y.val * 32) + x.val) * 12 + c.val := by
    unfold IntOp.addi
    rw [BitVec.toNat_add, hw.2, hb, hy, hx, BitVec.toNat_ofNat]
    omega
  rw [hn]
  unfold rowOf
  rw [← ix2_eq_valueIdx]
  refine (tabOf_apply X _ _).trans (congrArg X ?_)
  funext a
  match a with
  | 0 => exact Fin.ext (by show (_ % 49152) / 12 / 1024 = B.val; omega)
  | 1 => exact Fin.ext (by show w.val % 32 * 12 + (_ % 49152) % 12 = w.val * 12 + c.val; omega)
  | 2 => exact Fin.ext (by show (_ % 49152) / 12 / 32 % 32 = y.val; omega)
  | 3 => exact Fin.ext (by show (_ % 49152) / 12 % 32 = x.val; omega)

/-- The result's reshape, read at one element. -/
theorem cast_apply (o : FVec Ideal S512x75264 .f32) (m : Fin 512) (c : Fin 384) (i j : Fin 14) :
    shapeCast S512x384x14x14 o shapeCasts_S512x75264_S512x384x14x14 (ix4 m c i j) = o (ix2 m ⟨c.val * 196 + i.val * 14 + j.val, by omega⟩) := by
  pointwise

theorem kernel_apply (X : FVec Ideal S4x384x32x32 .f32) {x : FVec Ideal S512x6 .f32} {h : IVec S_ 32} {m : Fin 512} (c : Fin 384) (i j : Fin 14)
    (hh : 1 ≤ (h ix0).toInt) {B : Fin 4} (hB : (FloatOps.fptosi 32 (x (ix2 m 0)) : BitVec 32) = BitVec.ofNat 32 B.val) {a2 a3 a4 a5 : ℝ}
    (h2 : x (ix2 m 2) = (a2 : EReal)) (h3 : x (ix2 m 3) = (a3 : EReal)) (h4 : x (ix2 m 4) = (a4 : EReal)) (h5 : x (ix2 m 5) = (a5 : EReal))
    (hy : 0 ≤ at' 13⁻¹ h a3 a5 i ∧ at' 13⁻¹ h a3 a5 i < 32) (hx : 0 ≤ at' 13⁻¹ h a2 a4 j ∧ at' 13⁻¹ h a2 a4 j < 32) :
    shapeCast S512x384x14x14 (outOf (tabOf X) (roiOf x h)) shapeCasts_S512x75264_S512x384x14x14 (ix4 m c i j)
      = sample X B c (at' 13⁻¹ h a3 a5 i) (at' 13⁻¹ h a2 a4 j) hy hx := by
  rw [cast_apply]
  show value kap (rowOf (tabOf X) ((c.val * 196 + i.val * 14 + j.val) / 2352)) (wordOf (roiOf x h)) m.val ((c.val * 196 + i.val * 14 + j.val) % 2352 / 196)
    ((c.val * 196 + i.val * 14 + j.val) % 2352 % 196 / 14) ((c.val * 196 + i.val * 14 + j.val) % 2352 % 196 % 14) = _
  rw [show (c.val * 196 + i.val * 14 + j.val) / 2352 = (⟨c.val / 12, by omega⟩ : Fin 32).val from by simp only []; omega,
    show (c.val * 196 + i.val * 14 + j.val) % 2352 / 196 = (⟨c.val % 12, by omega⟩ : Fin 12).val from by simp only []; omega,
    show (c.val * 196 + i.val * 14 + j.val) % 2352 % 196 / 14 = i.val from by omega,
    show (c.val * 196 + i.val * 14 + j.val) % 2352 % 196 % 14 = j.val from by omega]
  have hb : (image (wordOf (roiOf x h)) m.val).toNat = B.val * 1024 := by
    unfold image IntOp.muli
    rw [image_word m, hB, BitVec.toNat_mul, BitVec.toNat_ofNat, BitVec.toNat_ofNat]
    omega
  have hc : (⟨(⟨c.val / 12, by omega⟩ : Fin 32).val * 12 + (⟨c.val % 12, by omega⟩ : Fin 12).val, by simp only []; omega⟩ : Fin 384) = c :=
    Fin.ext (by simp only []; omega)
  unfold value
  simp only []
  rw [ys_real hh h3 h5 (by omega), xs_real hh h2 h4 (by omega), cell_map hy.1 hy.2, cell_map hx.1 hx.2, frac_map hy.1 hy.2, frac_map hx.1 hx.2,
    nextCell_map (floor_lt hy.1 hy.2), nextCell_map (floor_lt hx.1 hx.2)]
  have key (y' x' : Fin 32) := (row_word X B y' x' ⟨c.val / 12, by omega⟩ ⟨c.val % 12, by omega⟩ hb).trans
    (congrArg (fun c' => X (ix4 B c' y' x')) hc)
  unfold sample
  rw [← key, ← key, ← key, ← key]
  rfl

end Cert.Proof.IdealRun

/-! ## The reference -/

namespace Cert.Proof.Reference

open Cert.ReferenceIdeal Cert.ReferenceIdeal.Gen Cert.ReferenceIdeal.Value Cert.RoiAlign
open Idealize.ShloMosaic

/-- The reference's coordinate `i` of a region from `a` to `b`. -/
def refAt {F : FTy → Type} [FloatOps F] (h : IVec S_ 32) (a b : F .f32) (i : ℕ) : F .f32 :=
  FloatOps.addf (FloatOps.hostDivf a (FloatOps.hostDivf (FloatOps.sitofp .f32 (h ix0)) (FloatOps.ofBits .f32 0x42000000#32)))
    (FloatOps.mulf (FloatOps.subf (FloatOps.hostDivf b (FloatOps.hostDivf (FloatOps.sitofp .f32 (h ix0)) (FloatOps.ofBits .f32 0x42000000#32)))
        (FloatOps.hostDivf a (FloatOps.hostDivf (FloatOps.sitofp .f32 (h ix0)) (FloatOps.ofBits .f32 0x42000000#32))))
      (FloatOps.hostDivf (FloatOps.sitofp .f32 (BitVec.ofNat 32 i)) (FloatOps.ofBits .f32 0x41500000#32)))

/-- It is the kernel's. -/
theorem refAt_real {h : IVec S_ 32} (hh : 1 ≤ (h ix0).toInt) (a b : ℝ) {i : ℕ} (hi : i < 2 ^ 31) :
    refAt (F := Ideal) h ((a : ℝ) : EReal) ((b : ℝ) : EReal) i = ((at' 13⁻¹ h a b i : ℝ) : EReal) := by
  have h1 : (1 : ℝ) ≤ height h := by unfold height; exact_mod_cast hh
  have hs : height h * (1 / 32) ≠ 0 := by positivity
  show Ideal.div (a : EReal) (Ideal.div ((height h : ℝ) : EReal) (Ideal.ofBits .f32 0x42000000#32))
    + (Ideal.div (b : EReal) (Ideal.div ((height h : ℝ) : EReal) (Ideal.ofBits .f32 0x42000000#32))
      - Ideal.div (a : EReal) (Ideal.div ((height h : ℝ) : EReal) (Ideal.ofBits .f32 0x42000000#32)))
    * Ideal.div (((BitVec.ofNat 32 i).toInt : ℝ) : EReal) (Ideal.ofBits .f32 0x41500000#32) = _
  rw [ofBits_32, ofBits_13, word_toInt hi, Ideal.div_coe (by norm_num : (32 : ℝ) ≠ 0), Ideal.div_coe (by norm_num : (13 : ℝ) ≠ 0), ← EReal.coe_mul,
    Ideal.div_coe hs, Ideal.div_coe hs]
  simp only [← EReal.coe_mul, ← EReal.coe_sub, ← EReal.coe_add]
  congr 1
  unfold at'
  push_cast
  field_simp

variable (V : Valuation τ sig (Elt Ideal))

def feats : FVec Ideal S4x384x32x32 .f32 := V (Proc.devRef .tc main_arg0)
def regions : FVec Ideal S512x6 .f32 := V (Proc.devRef .tc main_arg1)
def high : IVec S_ 32 := V (Proc.devRef .tc main_arg2)

/-- The reference's row and column coordinates. -/
def rows : FVec Ideal S512x14 .f32 := res_main_v30 V
def cols : FVec Ideal S512x14 .f32 := res_main_v39 V

theorem rows_apply (m : Fin 512) (i : Fin 14) : rows V (ix2 m i)
    = refAt (high V) (regions V (ix2 m 3)) (regions V (ix2 m 5)) i.val := by
  pointwise [rows, res_main_v30, res_main_v11, res_main_v7, refAt, regions, high]

theorem cols_apply (m : Fin 512) (i : Fin 14) : cols V (ix2 m i)
    = refAt (high V) (regions V (ix2 m 2)) (regions V (ix2 m 4)) i.val := by
  pointwise [cols, res_main_v39, res_main_v9, res_main_v7, refAt, regions, high]

/-- A coordinate clamped to the map after its floor and truncation, as the reference writes it. -/
def low {F : FTy → Type} [FloatOps F] (r : F .f32) : BitVec 32 :=
  IntOp.minsi 31#32 (IntOp.maxsi 0#32 (FloatOps.fptosi 32 (FloatOps.hostUnary .floor r)))

theorem low_map {r : ℝ} (h : 0 ≤ r ∧ r < 32) : low (F := Ideal) ((r : ℝ) : EReal) = BitVec.ofNat 32 (down r h).val := by
  unfold low
  rw [fptosi_floor h.1 h.2]
  exact (min_31 (down r h)).2.1

theorem image_apply (m : Fin 512) : (res_main_v54 V : IVec S512x1x1 32) (ix3 m 0 0) = FloatOps.fptosi 32 (regions V (ix2 m 0)) := by
  pointwise [res_main_v54, regions]

theorem row_apply (m : Fin 512) (i : Fin 14) : (res_main_v55 V : IVec S512x14x1 32) (ix3 m i 0) = low (rows V (ix2 m i)) := by
  pointwise [res_main_v55, res_main_v45, res_main_v40, low, rows]
  rfl

theorem row_up_apply (m : Fin 512) (i : Fin 14) : (res_main_v56 V : IVec S512x14x1 32) (ix3 m i 0)
    = IntOp.minsi 31#32 (IntOp.maxsi 0#32 (IntOp.addi (low (rows V (ix2 m i))) 1#32)) := by
  pointwise [res_main_v56, res_main_v45, res_main_v40, low, rows]
  rfl

theorem col_apply (m : Fin 512) (j : Fin 14) : (res_main_v57 V : IVec S512x1x14 32) (ix3 m 0 j) = low (cols V (ix2 m j)) := by
  pointwise [res_main_v57, res_main_v50, res_main_v41, low, cols]
  rfl

theorem col_up_apply (m : Fin 512) (j : Fin 14) : (res_main_v58 V : IVec S512x1x14 32) (ix3 m 0 j)
    = IntOp.minsi 31#32 (IntOp.maxsi 0#32 (IntOp.addi (low (cols V (ix2 m j))) 1#32)) := by
  pointwise [res_main_v58, res_main_v50, res_main_v41, low, cols]
  rfl

theorem wy_apply (m : Fin 512) (i : Fin 14) : (res_main_v151 V : FVec Ideal S512x14x1x1 .f32) (ix4 m i 0 0)
    = FloatOps.subf (F := Ideal) (φ := .f32) (rows V (ix2 m i)) (FloatOps.hostUnary .floor (rows V (ix2 m i))) := by
  pointwise [res_main_v151, res_main_v40, rows]

theorem wx_apply (m : Fin 512) (j : Fin 14) : (res_main_v152 V : FVec Ideal S512x1x14x1 .f32) (ix4 m 0 j 0)
    = FloatOps.subf (F := Ideal) (φ := .f32) (cols V (ix2 m j)) (FloatOps.hostUnary .floor (cols V (ix2 m j))) := by
  pointwise [res_main_v152, res_main_v41, cols]

/-- The distance of a coordinate of the map from its floor. -/
theorem sub_floor {r : ℝ} (h : 0 ≤ r ∧ r < 32) : FloatOps.subf (F := Ideal) (φ := .f32) ((r : ℝ) : EReal) (FloatOps.hostUnary .floor (((r : ℝ) : EReal) : Ideal .f32))
    = ((r - ⌊r⌋₊ : ℝ) : EReal) := by
  rw [hostFloor_map h.1]
  exact (EReal.coe_sub _ _).symm

theorem result_apply {m : Fin 512} (c : Fin 384) (i j : Fin 14) (hh : 1 ≤ (high V ix0).toInt) {B : Fin 4}
    (hB : (FloatOps.fptosi 32 (regions V (ix2 m 0)) : BitVec 32) = BitVec.ofNat 32 B.val) {a2 a3 a4 a5 : ℝ}
    (h2 : regions V (ix2 m 2) = (a2 : EReal)) (h3 : regions V (ix2 m 3) = (a3 : EReal)) (h4 : regions V (ix2 m 4) = (a4 : EReal))
    (h5 : regions V (ix2 m 5) = (a5 : EReal))
    (hy : 0 ≤ at' 13⁻¹ (high V) a3 a5 i ∧ at' 13⁻¹ (high V) a3 a5 i < 32) (hx : 0 ≤ at' 13⁻¹ (high V) a2 a4 j ∧ at' 13⁻¹ (high V) a2 a4 j < 32) :
    result V (ix4 m c i j) = sample (feats V) B c (at' 13⁻¹ (high V) a3 a5 i) (at' 13⁻¹ (high V) a2 a4 j) hy hx := by
  have ey := (rows_apply V m i).trans ((congrArg₂ (refAt (F := Ideal) (high V) · · i.val) h3 h5).trans (refAt_real hh a3 a5 (by omega)))
  have ex := (cols_apply V m j).trans ((congrArg₂ (refAt (F := Ideal) (high V) · · j.val) h2 h4).trans (refAt_real hh a2 a4 (by omega)))
  have eb := (image_apply V m).trans hB
  have er := (row_apply V m i).trans ((congrArg low ey).trans (low_map hy))
  have ec := (col_apply V m j).trans ((congrArg low ex).trans (low_map hx))
  have eru := (row_up_apply V m i).trans ((congrArg (fun v => IntOp.minsi 31#32 (IntOp.maxsi 0#32 (IntOp.addi (low v) 1#32))) ey).trans
    ((congrArg (fun v => IntOp.minsi 31#32 (IntOp.maxsi 0#32 (IntOp.addi v 1#32))) (low_map hy)).trans (min_31 (down _ hy)).2.2.2))
  have ecu := (col_up_apply V m j).trans ((congrArg (fun v => IntOp.minsi 31#32 (IntOp.maxsi 0#32 (IntOp.addi (low v) 1#32))) ex).trans
    ((congrArg (fun v => IntOp.minsi 31#32 (IntOp.maxsi 0#32 (IntOp.addi v 1#32))) (low_map hx)).trans (min_31 (down _ hx)).2.2.2))
  have ewy := (wy_apply V m i).trans ((congrArg (fun v : Ideal .f32 => FloatOps.subf v (FloatOps.hostUnary .floor v)) ey).trans (sub_floor hy))
  have ewx := (wx_apply V m j).trans ((congrArg (fun v : Ideal .f32 => FloatOps.subf v (FloatOps.hostUnary .floor v)) ex).trans (sub_floor hx))
  unfold result
  rw [blended_apply, ewy, ewx, gathered_apply _ c eb er ec, gathered_apply _ c eb er (W := up _) ecu, gathered_apply _ c eb (Y := up _) eru ec,
    gathered_apply _ c eb (Y := up _) eru (W := up _) ecu, ← blend_eq_mix]
  rfl

end Cert.Proof.Reference

/-! ## The claim -/

namespace Cert.Proof

open Cert.RoiAlign
open Idealize.ShloMosaic
open Idealize.SL.Sem

/-- The two programs' results are the same array. -/
theorem results_eq (V : Valuation Cert.ReferenceIdeal.τ Cert.ReferenceIdeal.sig (Elt Ideal))
    (e : ∀ m, Region (Reference.regions V) (Reference.high V) m) :
    (shapeCast Cert.KernelIdeal.S512x384x14x14 (IdealRun.outOf (IdealRun.tabOf (Reference.feats V)) (IdealRun.roiOf (Reference.regions V) (Reference.high V)))
      Cert.KernelIdeal.Gen.facts.shapeCasts_S512x75264_S512x384x14x14 : FVec Ideal Cert.KernelIdeal.S512x384x14x14 .f32) = Reference.result V := by
  funext k
  rw [show k = ix4 (k 0) (k 1) (k 2) (k 3) from by funext a; fin_cases a <;> rfl]
  have r := e (k 0)
  obtain ⟨B, hB⟩ := image_fin r.image
  obtain ⟨a2, h2, b2⟩ := corner_real r.left
  obtain ⟨a3, h3, b3⟩ := corner_real r.upper
  obtain ⟨a4, h4, b4⟩ := corner_real r.right
  obtain ⟨a5, h5, b5⟩ := corner_real r.lower
  have hy := at_map r.height b3 b5 (k 2).isLt
  have hx := at_map r.height b2 b4 (k 3).isLt
  exact (IdealRun.kernel_apply _ (k 1) (k 2) (k 3) r.height hB h2 h3 h4 h5 hy hx).trans
    (Reference.result_apply V (k 1) (k 2) (k 3) r.height hB h2 h3 h4 h5 hy hx).symm

/-- The idealized kernel and the reference end with the same result. -/
theorem algebraic : Cert.algebraic_KernelIdeal_ReferenceIdeal := by
  intro m g m' g' hp ha
  have hreg (d) := fun r => region_of_fn (hp d) r
  refine ⟨_, (θ_run _ _ _).mono (fun _ hq => hq.1) (IdealRun.run_main m g fun d => IdealRun.inRange (hreg d)),
    (θ_run _ _ _).mono (fun _ hq c => ⟨(hq c).1.trans ?_, (hq c).2⟩) (Reference.run m' g')⟩
  have e0 : Reference.feats (StableHlo.launchContents m' c) = _ := (ha c).1
  have e1 : Reference.regions (StableHlo.launchContents m' c) = _ := (ha c).2.1
  have e2 : Reference.high (StableHlo.launchContents m' c) = _ := (ha c).2.2
  refine (results_eq _ ?_).symm.trans ?_
  · rw [e1, e2]; exact hreg c
  · rw [e0, e1, e2]

end Cert.Proof

end
-- ==== Proof.lean ====
/-
  The proof of `Cert.Claim`: the kernel, its idealized form and the reference each run to an end with their arguments kept and
  every semaphore at zero; the idealized form renames one constant; and it computes what the reference computes.
-/
module

public import proofs.«01_k».proof.Proof.KernelFrame
public import proofs.«01_k».proof.Proof.Agree

@[expose] public section

noncomputable section

namespace Cert.Proof

open Idealize.ShloMosaic

/-- The idealized kernel's one named constant is a thirteenth. -/
theorem preserves : Cert.preserves_Kernel_KernelIdeal := IdealRules.named_const.statement _ _ _ _ _ rfl

theorem claim : Cert.Claim := ⟨Cert.Kernel.Gen.facts, Cert.KernelIdeal.Gen.facts, Cert.ReferenceIdeal.Gen.facts, Cert.Pre_boxes_in_image.Gen.facts,
  KernelRun.frame, IdealRun.frame, Reference.frame, preserves, algebraic⟩

end Cert.Proof

end
